-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S3x6x64x2x128 Cert.KernelIdeal.S3x6x64x1x128
  ∧ IdealRules.bf16_pack.Statement Cert.KernelIdeal.S8x128
  ∧ IdealRules.bf16_pair.PackStatement Cert.KernelIdeal.S8x128
  ∧ IdealRules.bf16_pair.Statement Cert.KernelIdeal.S1x1x8x2x128 Cert.KernelIdeal.S1x1x8x1x128
  ∧ IdealRules.bf16_pair.Statement Cert.KernelIdeal.S1x1x1x2x128 Cert.KernelIdeal.S1x1x1x1x128
  ∧ IdealRules.bf16_pair.Statement Cert.KernelIdeal.S16x2048 Cert.KernelIdeal.S8x2048

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S64x3840x1536 : Shape := ⟨3, ![64, 3840, 1536]⟩
abbrev S64x3840x12 : Shape := ⟨3, ![64, 3840, 12]⟩
abbrev S3840x1536 : Shape := ⟨2, ![3840, 1536]⟩
abbrev S_ : Shape := ⟨0, ![]⟩

class Facts : Prop where
  bcast_S_S64x3840x12 : S_.BroadcastsInDim S64x3840x12 (![] : Fin 0 → Fin S64x3840x12.rank)

variable [Facts]

def fn {F : FTy → Type} [FloatOps F] (main_arg0 : FVec F S64x3840x1536 .fp8e5m2) (main_arg1 : FVec F S64x3840x12 .f32) (main_arg2 : FVec F S3840x1536 .f32) (main_arg3 : FVec F S3840x1536 .f32) (main_arg4 : FVec F S3840x1536 .f32) : IVec S64x3840x12 1 :=
  let main_v0 : FVec F S64x3840x12 .f32 := Host.absf main_arg1
  let main_cst : FVec F S_ .f32 := constant S_ .f32 0x7F800000#32
  let main_v1 : FVec F S64x3840x12 .f32 := broadcastInDim S64x3840x12 ![] bcast_S_S64x3840x12 main_cst
  let main_v2 : IVec S64x3840x12 1 := cmpf .olt main_v0 main_v1
  main_v2
-- ==== Kernel.lean ====
abbrev S64x3840x1536 : Shape := ⟨3, ![64, 3840, 1536]⟩
abbrev S64x3840x12 : Shape := ⟨3, ![64, 3840, 12]⟩
abbrev S3840x1536 : Shape := ⟨2, ![3840, 1536]⟩
abbrev S12x64x3840 : Shape := ⟨3, ![12, 64, 3840]⟩
abbrev S12x3840 : Shape := ⟨2, ![12, 3840]⟩
abbrev S64x128x768 : Shape := ⟨3, ![64, 128, 768]⟩
abbrev S6x64x128 : Shape := ⟨3, ![6, 64, 128]⟩
abbrev S128x768 : Shape := ⟨2, ![128, 768]⟩
abbrev S12x128 : Shape := ⟨2, ![12, 128]⟩
abbrev S3x6x64x128 : Shape := ⟨4, ![3, 6, 64, 128]⟩
abbrev S128x128 : Shape := ⟨2, ![128, 128]⟩
abbrev S1x8x128 : Shape := ⟨3, ![1, 8, 128]⟩
abbrev S8x128 : Shape := ⟨2, ![8, 128]⟩
abbrev S1x1x8x128 : Shape := ⟨4, ![1, 1, 8, 128]⟩
abbrev S16x2048 : Shape := ⟨2, ![16, 2048]⟩
abbrev S32x128 : Shape := ⟨2, ![32, 128]⟩
abbrev S64x32x256 : Shape := ⟨3, ![64, 32, 256]⟩
abbrev S2048x256 : Shape := ⟨2, ![2048, 256]⟩
abbrev S1x1x1x128 : Shape := ⟨4, ![1, 1, 1, 128]⟩
abbrev S1x128 : Shape := ⟨2, ![1, 128]⟩
abbrev S1x2048 : Shape := ⟨2, ![1, 2048]⟩
abbrev S8x2048 : Shape := ⟨2, ![8, 2048]⟩
abbrev S32x2048 : Shape := ⟨2, ![32, 2048]⟩
abbrev S192x2048 : Shape := ⟨2, ![192, 2048]⟩
abbrev S192x256 : Shape := ⟨2, ![192, 256]⟩
abbrev S3x64x256 : Shape := ⟨3, ![3, 64, 256]⟩
abbrev S1x64x256 : Shape := ⟨3, ![1, 64, 256]⟩
abbrev S64x256 : Shape := ⟨2, ![64, 256]⟩
abbrev S32 : Shape := ⟨1, ![32]⟩
abbrev S32x1 : Shape := ⟨2, ![32, 1]⟩

abbrev nBuf : Space → Nat
  | .hbm => 12
  | .vmem => 24
  | .smem => 0
  | _ => 0

abbrev bufTy : (tb : Table) → Fin (tcTables nBuf tb) → BufTy
  | .hbm, ⟨0, _⟩ => ⟨S64x3840x1536, .fp8e5m2⟩
  | .hbm, ⟨1, _⟩ => ⟨S64x3840x12, .f32⟩
  | .hbm, ⟨2, _⟩ => ⟨S3840x1536, .f32⟩
  | .hbm, ⟨3, _⟩ => ⟨S3840x1536, .f32⟩
  | .hbm, ⟨4, _⟩ => ⟨S3840x1536, .f32⟩
  | .hbm, ⟨5, _⟩ => ⟨S12x64x3840, .f32⟩
  | .hbm, ⟨6, _⟩ => ⟨S3840x1536, .f32⟩
  | .hbm, ⟨7, _⟩ => ⟨S3840x1536, .f32⟩
  | .hbm, ⟨8, _⟩ => ⟨S3840x1536, .f32⟩
  | .hbm, ⟨9, _⟩ => ⟨S3840x1536, .f32⟩
  | .hbm, ⟨10, _⟩ => ⟨S3840x1536, .fp8e4m3⟩
  | .hbm, ⟨11, _⟩ => ⟨S12x3840, .f32⟩
  | .local _ .vmem, ⟨0, _⟩ => ⟨S64x128x768, .fp8e5m2⟩
  | .local _ .vmem, ⟨1, _⟩ => ⟨S64x128x768, .fp8e5m2⟩
  | .local _ .vmem, ⟨2, _⟩ => ⟨S6x64x128, .f32⟩
  | .local _ .vmem, ⟨3, _⟩ => ⟨S6x64x128, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | .local _ .vmem, ⟨14, _⟩ => ⟨S128x768, .f32⟩
  | .local _ .vmem, ⟨15, _⟩ => ⟨S128x768, .f32⟩
  | .local _ .vmem, ⟨16, _⟩ => ⟨S128x768, .f32⟩
  | .local _ .vmem, ⟨17, _⟩ => ⟨S128x768, .f32⟩
  | .local _ .vmem, ⟨18, _⟩ => ⟨S128x768, .fp8e4m3⟩
  | .local _ .vmem, ⟨19, _⟩ => ⟨S128x768, .fp8e4m3⟩
  | .local _ .vmem, ⟨20, _⟩ => ⟨S12x128, .f32⟩
  | .local _ .vmem, ⟨21, _⟩ => ⟨S12x128, .f32⟩
  | .local _ .vmem, ⟨22, _⟩ => ⟨S3x6x64x128, .i32⟩
  | .local _ .vmem, ⟨23, _⟩ => ⟨S128x128, .f32⟩
  | _, _ => ⟨S64x3840x1536, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [BitOps F]

abbrev grid0 : Pipeline.Grid := ⟨2, ![30, 2], ![false, false]⟩

@[reducible] def k0_t1_loop : Scf.Loop 32 :=
  let c0_i32 : BitVec 32 := 0#32
  let c6_i32 : BitVec 32 := 6#32
  let v0 : BitVec 32 := Scalar.addi c0_i32 c6_i32
  let c1_i32 : BitVec 32 := 1#32
  ⟨c0_i32, v0, c1_i32⟩
@[reducible] def k0_t2_loop : Scf.Loop 32 :=
  let c0_i32_14 : BitVec 32 := 0#32
  let c8_i32 : BitVec 32 := 8#32
  let v32 : BitVec 32 := Scalar.addi c0_i32_14 c8_i32
  let c1_i32_15 : BitVec 32 := 1#32
  ⟨c0_i32_14, v32, c1_i32_15⟩
def k0_off1 (k0_t1 : Fin k0_t1_loop.trips) (k0_t2 : Fin k0_t2_loop.trips) : Fin 3 → Nat :=
  let c0_i32_13 : BitVec 32 := 0#32
  let c0_i32 : BitVec 32 := 0#32
  let c1_i32 : BitVec 32 := 1#32
  let arg15 : BitVec 32 := Scf.iv c0_i32 c1_i32 k0_t1
  let c1_i32_12 : BitVec 32 := 1#32
  let v30 : BitVec 32 := Scalar.muli arg15 c1_i32_12
  let v31 : BitVec 32 := Scalar.addi c0_i32_13 v30
  let v36 : Index := Scalar.indexCast v31
  let c0_i32_18 : BitVec 32 := 0#32
  let c0_i32_14 : BitVec 32 := 0#32
  let c1_i32_15 : BitVec 32 := 1#32
  let arg16 : BitVec 32 := Scf.iv c0_i32_14 c1_i32_15 k0_t2
  let c1_i32_17 : BitVec 32 := 1#32
  let v33 : BitVec 32 := Scalar.muli arg16 c1_i32_17
  let v34 : BitVec 32 := Scalar.addi c0_i32_18 v33
  let c8_i32_19 : BitVec 32 := 8#32
  let v35 : BitVec 32 := Scalar.muli v34 c8_i32_19
  let v37 : Index := Scalar.indexCast v35
  let c0 : Index := 0#32
  ![v36.toNat, v37.toNat, 0]
def k0_off2 (k0_t1 : Fin k0_t1_loop.trips) (k0_t2 : Fin k0_t2_loop.trips) : Fin 4 → Nat :=
  let c0_36 : Index := 0#32
  let c0_i32_13 : BitVec 32 := 0#32
  let c0_i32 : BitVec 32 := 0#32
  let c1_i32 : BitVec 32 := 1#32
  let arg15 : BitVec 32 := Scf.iv c0_i32 c1_i32 k0_t1
  let c1_i32_12 : BitVec 32 := 1#32
  let v30 : BitVec 32 := Scalar.muli arg15 c1_i32_12
  let v31 : BitVec 32 := Scalar.addi c0_i32_13 v30
  let v96 : Index := Scalar.indexCast v31
  let c0_i32_18 : BitVec 32 := 0#32
  let c0_i32_14 : BitVec 32 := 0#32
  let c1_i32_15 : BitVec 32 := 1#32
  let arg16 : BitVec 32 := Scf.iv c0_i32_14 c1_i32_15 k0_t2
  let c1_i32_17 : BitVec 32 := 1#32
  let v33 : BitVec 32 := Scalar.muli arg16 c1_i32_17
  let v34 : BitVec 32 := Scalar.addi c0_i32_18 v33
  let c8_i32_35 : BitVec 32 := 8#32
  let v95 : BitVec 32 := Scalar.muli v34 c8_i32_35
  let v97 : Index := Scalar.indexCast v95
  let c0_37 : Index := 0#32
  ![0, v96.toNat, v97.toNat, 0]
def k0_off3 (k0_t1 : Fin k0_t1_loop.trips) (k0_t2 : Fin k0_t2_loop.trips) : Fin 4 → Nat :=
  let c1 : Index := 1#32
  let c0_i32_13 : BitVec 32 := 0#32
  let c0_i32 : BitVec 32 := 0#32
  let c1_i32 : BitVec 32 := 1#32
  let arg15 : BitVec 32 := Scf.iv c0_i32 c1_i32 k0_t1
  let c1_i32_12 : BitVec 32 := 1#32
  let v30 : BitVec 32 := Scalar.muli arg15 c1_i32_12
  let v31 : BitVec 32 := Scalar.addi c0_i32_13 v30
  let v140 : Index := Scalar.indexCast v31
  let c0_i32_18 : BitVec 32 := 0#32
  let c0_i32_14 : BitVec 32 := 0#32
  let c1_i32_15 : BitVec 32 := 1#32
  let arg16 : BitVec 32 := Scf.iv c0_i32_14 c1_i32_15 k0_t2
  let c1_i32_17 : BitVec 32 := 1#32
  let v33 : BitVec 32 := Scalar.muli arg16 c1_i32_17
  let v34 : BitVec 32 := Scalar.addi c0_i32_18 v33
  let c8_i32_56 : BitVec 32 := 8#32
  let v139 : BitVec 32 := Scalar.muli v34 c8_i32_56
  let v141 : Index := Scalar.indexCast v139
  let c0_57 : Index := 0#32
  ![1, v140.toNat, v141.toNat, 0]
def k0_off4 (k0_t1 : Fin k0_t1_loop.trips) (k0_t2 : Fin k0_t2_loop.trips) : Fin 4 → Nat :=
  let c2 : Index := 2#32
  let c0_i32_13 : BitVec 32 := 0#32
  let c0_i32 : BitVec 32 := 0#32
  let c1_i32 : BitVec 32 := 1#32
  let arg15 : BitVec 32 := Scf.iv c0_i32 c1_i32 k0_t1
  let c1_i32_12 : BitVec 32 := 1#32
  let v30 : BitVec 32 := Scalar.muli arg15 c1_i32_12
  let v31 : BitVec 32 := Scalar.addi c0_i32_13 v30
  let v184 : Index := Scalar.indexCast v31
  let c0_i32_18 : BitVec 32 := 0#32
  let c0_i32_14 : BitVec 32 := 0#32
  let c1_i32_15 : BitVec 32 := 1#32
  let arg16 : BitVec 32 := Scf.iv c0_i32_14 c1_i32_15 k0_t2
  let c1_i32_17 : BitVec 32 := 1#32
  let v33 : BitVec 32 := Scalar.muli arg16 c1_i32_17
  let v34 : BitVec 32 := Scalar.addi c0_i32_18 v33
  let c8_i32_76 : BitVec 32 := 8#32
  let v183 : BitVec 32 := Scalar.muli v34 c8_i32_76
  let v185 : Index := Scalar.indexCast v183
  let c0_77 : Index := 0#32
  ![2, v184.toNat, v185.toNat, 0]
@[reducible] def k0_t3_loop : Scf.Loop 32 :=
  let c0_i32_7 : BitVec 32 := 0#32
  let c4_i32 : BitVec 32 := 4#32
  let v26 : BitVec 32 := Scalar.addi c0_i32_7 c4_i32
  let c1_i32_8 : BitVec 32 := 1#32
  ⟨c0_i32_7, v26, c1_i32_8⟩
def k0_off5 (k0_t3 : Fin k0_t3_loop.trips) : Fin 2 → Nat :=
  let c0_i32_13 : BitVec 32 := 0#32
  let c0_i32_7 : BitVec 32 := 0#32
  let c1_i32_8 : BitVec 32 := 1#32
  let arg15 : BitVec 32 := Scf.iv c0_i32_7 c1_i32_8 k0_t3
  let c1_i32_12 : BitVec 32 := 1#32
  let v30 : BitVec 32 := Scalar.muli arg15 c1_i32_12
  let v31 : BitVec 32 := Scalar.addi c0_i32_13 v30
  let c32_i32_14 : BitVec 32 := 32#32
  let v32 : BitVec 32 := Scalar.muli v31 c32_i32_14
  let v33 : Index := Scalar.indexCast v32
  let c0 : Index := 0#32
  ![v33.toNat, 0]
@[reducible] def k0_t4_loop : Scf.Loop 32 :=
  let c0_i32_15 : BitVec 32 := 0#32
  let c3_i32 : BitVec 32 := 3#32
  let v35 : BitVec 32 := Scalar.addi c0_i32_15 c3_i32
  let c1_i32_16 : BitVec 32 := 1#32
  ⟨c0_i32_15, v35, c1_i32_16⟩
def k0_off6 (k0_t3 : Fin k0_t3_loop.trips) (k0_t4 : Fin k0_t4_loop.trips) : Fin 3 → Nat :=
  let c0_19 : Index := 0#32
  let c0_i32_13 : BitVec 32 := 0#32
  let c0_i32_7 : BitVec 32 := 0#32
  let c1_i32_8 : BitVec 32 := 1#32
  let arg15 : BitVec 32 := Scf.iv c0_i32_7 c1_i32_8 k0_t3
  let c1_i32_12 : BitVec 32 := 1#32
  let v30 : BitVec 32 := Scalar.muli arg15 c1_i32_12
  let v31 : BitVec 32 := Scalar.addi c0_i32_13 v30
  let c32_i32_14 : BitVec 32 := 32#32
  let v32 : BitVec 32 := Scalar.muli v31 c32_i32_14
  let v43 : Index := Scalar.indexCast v32
  let c0_i32_15 : BitVec 32 := 0#32
  let c1_i32_16 : BitVec 32 := 1#32
  let arg16 : BitVec 32 := Scf.iv c0_i32_15 c1_i32_16 k0_t4
  let c2_i32 : BitVec 32 := 2#32
  let v41 : BitVec 32 := Scalar.muli arg16 c2_i32
  let c128_i32 : BitVec 32 := 128#32
  let v42 : BitVec 32 := Scalar.muli v41 c128_i32
  let v44 : Index := Scalar.indexCast v42
  ![0, v43.toNat, v44.toNat]
def k0_off7 (k0_t3 : Fin k0_t3_loop.trips) (k0_t4 : Fin k0_t4_loop.trips) (c0_i32_21 : BitVec 32) (c0_i32_22 : BitVec 32) : Fin 4 → Nat :=
  let c0_23 : Index := 0#32
  let c2_i32_20 : BitVec 32 := 2#32
  let c0_i32_15 : BitVec 32 := 0#32
  let c1_i32_16 : BitVec 32 := 1#32
  let arg16 : BitVec 32 := Scf.iv c0_i32_15 c1_i32_16 k0_t4
  let v47 : BitVec 32 := Scalar.muli c2_i32_20 arg16
  let v48 : BitVec 32 := Scalar.addi v47 c0_i32_21
  let v50 : Index := Scalar.indexCast v48
  let c0_i32_13 : BitVec 32 := 0#32
  let c0_i32_7 : BitVec 32 := 0#32
  let c1_i32_8 : BitVec 32 := 1#32
  let arg15 : BitVec 32 := Scf.iv c0_i32_7 c1_i32_8 k0_t3
  let c1_i32_12 : BitVec 32 := 1#32
  let v30 : BitVec 32 := Scalar.muli arg15 c1_i32_12
  let v31 : BitVec 32 := Scalar.addi c0_i32_13 v30
  let v49 : BitVec 32 := Scalar.addi c0_i32_22 v31
  let v51 : Index := Scalar.indexCast v49
  let c0_24 : Index := 0#32
  ![0, v50.toNat, v51.toNat, 0]
def k0_off8 (k0_t3 : Fin k0_t3_loop.trips) (k0_t4 : Fin k0_t4_loop.trips) (c0_i32_208 : BitVec 32) (c0_i32_209 : BitVec 32) : Fin 4 → Nat :=
  let c1 : Index := 1#32
  let c2_i32_207 : BitVec 32 := 2#32
  let c0_i32_15 : BitVec 32 := 0#32
  let c1_i32_16 : BitVec 32 := 1#32
  let arg16 : BitVec 32 := Scf.iv c0_i32_15 c1_i32_16 k0_t4
  let v393 : BitVec 32 := Scalar.muli c2_i32_207 arg16
  let v394 : BitVec 32 := Scalar.addi v393 c0_i32_208
  let v396 : Index := Scalar.indexCast v394
  let c0_i32_13 : BitVec 32 := 0#32
  let c0_i32_7 : BitVec 32 := 0#32
  let c1_i32_8 : BitVec 32 := 1#32
  let arg15 : BitVec 32 := Scf.iv c0_i32_7 c1_i32_8 k0_t3
  let c1_i32_12 : BitVec 32 := 1#32
  let v30 : BitVec 32 := Scalar.muli arg15 c1_i32_12
  let v31 : BitVec 32 := Scalar.addi c0_i32_13 v30
  let v395 : BitVec 32 := Scalar.addi c0_i32_209 v31
  let v397 : Index := Scalar.indexCast v395
  let c0_210 : Index := 0#32
  ![1, v396.toNat, v397.toNat, 0]
def k0_off9 (k0_t3 : Fin k0_t3_loop.trips) (k0_t4 : Fin k0_t4_loop.trips) (c0_i32_407 : BitVec 32) (c0_i32_408 : BitVec 32) : Fin 4 → Nat :=
  let c2 : Index := 2#32
  let c2_i32_406 : BitVec 32 := 2#32
  let c0_i32_15 : BitVec 32 := 0#32
  let c1_i32_16 : BitVec 32 := 1#32
  let arg16 : BitVec 32 := Scf.iv c0_i32_15 c1_i32_16 k0_t4
  let v739 : BitVec 32 := Scalar.muli c2_i32_406 arg16
  let v740 : BitVec 32 := Scalar.addi v739 c0_i32_407
  let v742 : Index := Scalar.indexCast v740
  let c0_i32_13 : BitVec 32 := 0#32
  let c0_i32_7 : BitVec 32 := 0#32
  let c1_i32_8 : BitVec 32 := 1#32
  let arg15 : BitVec 32 := Scf.iv c0_i32_7 c1_i32_8 k0_t3
  let c1_i32_12 : BitVec 32 := 1#32
  let v30 : BitVec 32 := Scalar.muli arg15 c1_i32_12
  let v31 : BitVec 32 := Scalar.addi c0_i32_13 v30
  let v741 : BitVec 32 := Scalar.addi c0_i32_408 v31
  let v743 : Index := Scalar.indexCast v741
  let c0_409 : Index := 0#32
  ![2, v742.toNat, v743.toNat, 0]
def k0_off10 (k0_t3 : Fin k0_t3_loop.trips) (k0_t4 : Fin k0_t4_loop.trips) (c0_i32_607 : BitVec 32) : Fin 2 → Nat :=
  let c0_i32_13 : BitVec 32 := 0#32
  let c0_i32_7 : BitVec 32 := 0#32
  let c1_i32_8 : BitVec 32 := 1#32
  let arg15 : BitVec 32 := Scf.iv c0_i32_7 c1_i32_8 k0_t3
  let c1_i32_12 : BitVec 32 := 1#32
  let v30 : BitVec 32 := Scalar.muli arg15 c1_i32_12
  let v31 : BitVec 32 := Scalar.addi c0_i32_13 v30
  let c32_i32_14 : BitVec 32 := 32#32
  let v32 : BitVec 32 := Scalar.muli v31 c32_i32_14
  let v1102 : Index := Scalar.indexCast v32
  let c2_i32_606 : BitVec 32 := 2#32
  let c0_i32_15 : BitVec 32 := 0#32
  let c1_i32_16 : BitVec 32 := 1#32
  let arg16 : BitVec 32 := Scf.iv c0_i32_15 c1_i32_16 k0_t4
  let v1096 : BitVec 32 := Scalar.muli c2_i32_606 arg16
  let v1097 : BitVec 32 := Scalar.addi v1096 c0_i32_607
  let c128_i32_608 : BitVec 32 := 128#32
  let v1098 : BitVec 32 := Scalar.muli v1097 c128_i32_608
  let v1103 : Index := Scalar.indexCast v1098
  ![v1102.toNat, v1103.toNat]
def k0_cond1 (i : grid0.Coords) : BitVec 1 :=
  let arg1 : BitVec 32 := BitVec.ofNat 32 (i 1).val
  let c1_i32_10 : BitVec 32 := 1#32
  let v27 : BitVec 1 := Scalar.cmpi .eq arg1 c1_i32_10
  let v28 : BitVec 32 := Scalar.extui v27
  let c0_i32_11 : BitVec 32 := 0#32
  let v29 : BitVec 1 := Scalar.cmpi .ne v28 c0_i32_11
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x128x768 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x768 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S12x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
abbrev S64x3840x1536 : Shape := ⟨3, ![64, 3840, 1536]⟩
abbrev S64x3840x12 : Shape := ⟨3, ![64, 3840, 12]⟩
abbrev S3840x1536 : Shape := ⟨2, ![3840, 1536]⟩
abbrev S12x64x3840 : Shape := ⟨3, ![12, 64, 3840]⟩
abbrev S12x3840 : Shape := ⟨2, ![12, 3840]⟩
abbrev S64x128x768 : Shape := ⟨3, ![64, 128, 768]⟩
abbrev S6x64x128 : Shape := ⟨3, ![6, 64, 128]⟩
abbrev S128x768 : Shape := ⟨2, ![128, 768]⟩
abbrev S12x128 : Shape := ⟨2, ![12, 128]⟩
abbrev S3x6x64x128 : Shape := ⟨4, ![3, 6, 64, 128]⟩
abbrev S3x6x64x2x128 : Shape := ⟨5, ![3, 6, 64, 2, 128]⟩
abbrev S3x6x64x1x128 : Shape := ⟨5, ![3, 6, 64, 1, 128]⟩
abbrev S128x128 : Shape := ⟨2, ![128, 128]⟩
abbrev S1x8x128 : Shape := ⟨3, ![1, 8, 128]⟩
abbrev S8x128 : Shape := ⟨2, ![8, 128]⟩
abbrev S1x1x8x128 : Shape := ⟨4, ![1, 1, 8, 128]⟩
abbrev S1x1x8x2x128 : Shape := ⟨5, ![1, 1, 8, 2, 128]⟩
abbrev S1x1x8x1x128 : Shape := ⟨5, ![1, 1, 8, 1, 128]⟩
abbrev S16x2048 : Shape := ⟨2, ![16, 2048]⟩
abbrev S32x128 : Shape := ⟨2, ![32, 128]⟩
abbrev S64x32x256 : Shape := ⟨3, ![64, 32, 256]⟩
abbrev S2048x256 : Shape := ⟨2, ![2048, 256]⟩
abbrev S1x1x1x128 : Shape := ⟨4, ![1, 1, 1, 128]⟩
abbrev S1x1x1x2x128 : Shape := ⟨5, ![1, 1, 1, 2, 128]⟩
abbrev S1x1x1x1x128 : Shape := ⟨5, ![1, 1, 1, 1, 128]⟩
abbrev S1x128 : Shape := ⟨2, ![1, 128]⟩
abbrev S1x2048 : Shape := ⟨2, ![1, 2048]⟩
abbrev S8x2048 : Shape := ⟨2, ![8, 2048]⟩
abbrev S32x2048 : Shape := ⟨2, ![32, 2048]⟩
abbrev S192x2048 : Shape := ⟨2, ![192, 2048]⟩
abbrev S192x256 : Shape := ⟨2, ![192, 256]⟩
abbrev S3x64x256 : Shape := ⟨3, ![3, 64, 256]⟩
abbrev S1x64x256 : Shape := ⟨3, ![1, 64, 256]⟩
abbrev S64x256 : Shape := ⟨2, ![64, 256]⟩
abbrev S32 : Shape := ⟨1, ![32]⟩
abbrev S32x1 : Shape := ⟨2, ![32, 1]⟩

abbrev nBuf : Space → Nat
  | .hbm => 12
  | .vmem => 24
  | .smem => 0
  | _ => 0

abbrev bufTy : (tb : Table) → Fin (tcTables nBuf tb) → BufTy
  | .hbm, ⟨0, _⟩ => ⟨S64x3840x1536, .fp8e5m2⟩
  | .hbm, ⟨1, _⟩ => ⟨S64x3840x12, .f32⟩
  | .hbm, ⟨2, _⟩ => ⟨S3840x1536, .f32⟩
  | .hbm, ⟨3, _⟩ => ⟨S3840x1536, .f32⟩
  | .hbm, ⟨4, _⟩ => ⟨S3840x1536, .f32⟩
  | .hbm, ⟨5, _⟩ => ⟨S12x64x3840, .f32⟩
  | .hbm, ⟨6, _⟩ => ⟨S3840x1536, .f32⟩
  | .hbm, ⟨7, _⟩ => ⟨S3840x1536, .f32⟩
  | .hbm, ⟨8, _⟩ => ⟨S3840x1536, .f32⟩
  | .hbm, ⟨9, _⟩ => ⟨S3840x1536, .f32⟩
  | .hbm, ⟨10, _⟩ => ⟨S3840x1536, .fp8e4m3⟩
  | .hbm, ⟨11, _⟩ => ⟨S12x3840, .f32⟩
  | .local _ .vmem, ⟨0, _⟩ => ⟨S64x128x768, .fp8e5m2⟩
  | .local _ .vmem, ⟨1, _⟩ => ⟨S64x128x768, .fp8e5m2⟩
  | .local _ .vmem, ⟨2, _⟩ => ⟨S6x64x128, .f32⟩
  | .local _ .vmem, ⟨3, _⟩ => ⟨S6x64x128, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | .local _ .vmem, ⟨14, _⟩ => ⟨S128x768, .f32⟩
  | .local _ .vmem, ⟨15, _⟩ => ⟨S128x768, .f32⟩
  | .local _ .vmem, ⟨16, _⟩ => ⟨S128x768, .f32⟩
  | .local _ .vmem, ⟨17, _⟩ => ⟨S128x768, .f32⟩
  | .local _ .vmem, ⟨18, _⟩ => ⟨S128x768, .fp8e4m3⟩
  | .local _ .vmem, ⟨19, _⟩ => ⟨S128x768, .fp8e4m3⟩
  | .local _ .vmem, ⟨20, _⟩ => ⟨S12x128, .f32⟩
  | .local _ .vmem, ⟨21, _⟩ => ⟨S12x128, .f32⟩
  | .local _ .vmem, ⟨22, _⟩ => ⟨S3x6x64x2x128, .bf16⟩
  | .local _ .vmem, ⟨23, _⟩ => ⟨S128x128, .f32⟩
  | _, _ => ⟨S64x3840x1536, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![30, 2], ![false, false]⟩

@[reducible] def k0_t1_loop : Scf.Loop 32 :=
  let c0_i32 : BitVec 32 := 0#32
  let c6_i32 : BitVec 32 := 6#32
  let v0 : BitVec 32 := Scalar.addi c0_i32 c6_i32
  let c1_i32 : BitVec 32 := 1#32
  ⟨c0_i32, v0, c1_i32⟩
@[reducible] def k0_t2_loop : Scf.Loop 32 :=
  let c0_i32_14 : BitVec 32 := 0#32
  let c8_i32 : BitVec 32 := 8#32
  let v32 : BitVec 32 := Scalar.addi c0_i32_14 c8_i32
  let c1_i32_15 : BitVec 32 := 1#32
  ⟨c0_i32_14, v32, c1_i32_15⟩
def k0_off1 (k0_t1 : Fin k0_t1_loop.trips) (k0_t2 : Fin k0_t2_loop.trips) : Fin 3 → Nat :=
  let c0_i32_13 : BitVec 32 := 0#32
  let c0_i32 : BitVec 32 := 0#32
  let c1_i32 : BitVec 32 := 1#32
  let arg15 : BitVec 32 := Scf.iv c0_i32 c1_i32 k0_t1
  let c1_i32_12 : BitVec 32 := 1#32
  let v30 : BitVec 32 := Scalar.muli arg15 c1_i32_12
  let v31 : BitVec 32 := Scalar.addi c0_i32_13 v30
  let v36 : Index := Scalar.indexCast v31
  let c0_i32_18 : BitVec 32 := 0#32
  let c0_i32_14 : BitVec 32 := 0#32
  let c1_i32_15 : BitVec 32 := 1#32
  let arg16 : BitVec 32 := Scf.iv c0_i32_14 c1_i32_15 k0_t2
  let c1_i32_17 : BitVec 32 := 1#32
  let v33 : BitVec 32 := Scalar.muli arg16 c1_i32_17
  let v34 : BitVec 32 := Scalar.addi c0_i32_18 v33
  let c8_i32_19 : BitVec 32 := 8#32
  let v35 : BitVec 32 := Scalar.muli v34 c8_i32_19
  let v37 : Index := Scalar.indexCast v35
  let c0 : Index := 0#32
  ![v36.toNat, v37.toNat, 0]
def k0_off2 (k0_t1 : Fin k0_t1_loop.trips) (k0_t2 : Fin k0_t2_loop.trips) : Fin 5 → Nat :=
  let c0_36 : Index := 0#32
  let c0_i32_13 : BitVec 32 := 0#32
  let c0_i32 : BitVec 32 := 0#32
  let c1_i32 : BitVec 32 := 1#32
  let arg15 : BitVec 32 := Scf.iv c0_i32 c1_i32 k0_t1
  let c1_i32_12 : BitVec 32 := 1#32
  let v30 : BitVec 32 := Scalar.muli arg15 c1_i32_12
  let v31 : BitVec 32 := Scalar.addi c0_i32_13 v30
  let v96 : Index := Scalar.indexCast v31
  let c0_i32_18 : BitVec 32 := 0#32
  let c0_i32_14 : BitVec 32 := 0#32
  let c1_i32_15 : BitVec 32 := 1#32
  let arg16 : BitVec 32 := Scf.iv c0_i32_14 c1_i32_15 k0_t2
  let c1_i32_17 : BitVec 32 := 1#32
  let v33 : BitVec 32 := Scalar.muli arg16 c1_i32_17
  let v34 : BitVec 32 := Scalar.addi c0_i32_18 v33
  let c8_i32_35 : BitVec 32 := 8#32
  let v95 : BitVec 32 := Scalar.muli v34 c8_i32_35
  let v97 : Index := Scalar.indexCast v95
  let c0_37 : Index := 0#32
  ![0, v96.toNat, v97.toNat, 0, 0]
def k0_off3 (k0_t1 : Fin k0_t1_loop.trips) (k0_t2 : Fin k0_t2_loop.trips) : Fin 5 → Nat :=
  let c1 : Index := 1#32
  let c0_i32_13 : BitVec 32 := 0#32
  let c0_i32 : BitVec 32 := 0#32
  let c1_i32 : BitVec 32 := 1#32
  let arg15 : BitVec 32 := Scf.iv c0_i32 c1_i32 k0_t1
  let c1_i32_12 : BitVec 32 := 1#32
  let v30 : BitVec 32 := Scalar.muli arg15 c1_i32_12
  let v31 : BitVec 32 := Scalar.addi c0_i32_13 v30
  let v140 : Index := Scalar.indexCast v31
  let c0_i32_18 : BitVec 32 := 0#32
  let c0_i32_14 : BitVec 32 := 0#32
  let c1_i32_15 : BitVec 32 := 1#32
  let arg16 : BitVec 32 := Scf.iv c0_i32_14 c1_i32_15 k0_t2
  let c1_i32_17 : BitVec 32 := 1#32
  let v33 : BitVec 32 := Scalar.muli arg16 c1_i32_17
  let v34 : BitVec 32 := Scalar.addi c0_i32_18 v33
  let c8_i32_56 : BitVec 32 := 8#32
  let v139 : BitVec 32 := Scalar.muli v34 c8_i32_56
  let v141 : Index := Scalar.indexCast v139
  let c0_57 : Index := 0#32
  ![1, v140.toNat, v141.toNat, 0, 0]
def k0_off4 (k0_t1 : Fin k0_t1_loop.trips) (k0_t2 : Fin k0_t2_loop.trips) : Fin 5 → Nat :=
  let c2 : Index := 2#32
  let c0_i32_13 : BitVec 32 := 0#32
  let c0_i32 : BitVec 32 := 0#32
  let c1_i32 : BitVec 32 := 1#32
  let arg15 : BitVec 32 := Scf.iv c0_i32 c1_i32 k0_t1
  let c1_i32_12 : BitVec 32 := 1#32
  let v30 : BitVec 32 := Scalar.muli arg15 c1_i32_12
  let v31 : BitVec 32 := Scalar.addi c0_i32_13 v30
  let v184 : Index := Scalar.indexCast v31
  let c0_i32_18 : BitVec 32 := 0#32
  let c0_i32_14 : BitVec 32 := 0#32
  let c1_i32_15 : BitVec 32 := 1#32
  let arg16 : BitVec 32 := Scf.iv c0_i32_14 c1_i32_15 k0_t2
  let c1_i32_17 : BitVec 32 := 1#32
  let v33 : BitVec 32 := Scalar.muli arg16 c1_i32_17
  let v34 : BitVec 32 := Scalar.addi c0_i32_18 v33
  let c8_i32_76 : BitVec 32 := 8#32
  let v183 : BitVec 32 := Scalar.muli v34 c8_i32_76
  let v185 : Index := Scalar.indexCast v183
  let c0_77 : Index := 0#32
  ![2, v184.toNat, v185.toNat, 0, 0]
@[reducible] def k0_t3_loop : Scf.Loop 32 :=
  let c0_i32_7 : BitVec 32 := 0#32
  let c4_i32 : BitVec 32 := 4#32
  let v26 : BitVec 32 := Scalar.addi c0_i32_7 c4_i32
  let c1_i32_8 : BitVec 32 := 1#32
  ⟨c0_i32_7, v26, c1_i32_8⟩
def k0_off5 (k0_t3 : Fin k0_t3_loop.trips) : Fin 2 → Nat :=
  let c0_i32_13 : BitVec 32 := 0#32
  let c0_i32_7 : BitVec 32 := 0#32
  let c1_i32_8 : BitVec 32 := 1#32
  let arg15 : BitVec 32 := Scf.iv c0_i32_7 c1_i32_8 k0_t3
  let c1_i32_12 : BitVec 32 := 1#32
  let v30 : BitVec 32 := Scalar.muli arg15 c1_i32_12
  let v31 : BitVec 32 := Scalar.addi c0_i32_13 v30
  let c32_i32_14 : BitVec 32 := 32#32
  let v32 : BitVec 32 := Scalar.muli v31 c32_i32_14
  let v33 : Index := Scalar.indexCast v32
  let c0 : Index := 0#32
  ![v33.toNat, 0]
@[reducible] def k0_t4_loop : Scf.Loop 32 :=
  let c0_i32_15 : BitVec 32 := 0#32
  let c3_i32 : BitVec 32 := 3#32
  let v35 : BitVec 32 := Scalar.addi c0_i32_15 c3_i32
  let c1_i32_16 : BitVec 32 := 1#32
  ⟨c0_i32_15, v35, c1_i32_16⟩
def k0_off6 (k0_t3 : Fin k0_t3_loop.trips) (k0_t4 : Fin k0_t4_loop.trips) : Fin 3 → Nat :=
  let c0_19 : Index := 0#32
  let c0_i32_13 : BitVec 32 := 0#32
  let c0_i32_7 : BitVec 32 := 0#32
  let c1_i32_8 : BitVec 32 := 1#32
  let arg15 : BitVec 32 := Scf.iv c0_i32_7 c1_i32_8 k0_t3
  let c1_i32_12 : BitVec 32 := 1#32
  let v30 : BitVec 32 := Scalar.muli arg15 c1_i32_12
  let v31 : BitVec 32 := Scalar.addi c0_i32_13 v30
  let c32_i32_14 : BitVec 32 := 32#32
  let v32 : BitVec 32 := Scalar.muli v31 c32_i32_14
  let v43 : Index := Scalar.indexCast v32
  let c0_i32_15 : BitVec 32 := 0#32
  let c1_i32_16 : BitVec 32 := 1#32
  let arg16 : BitVec 32 := Scf.iv c0_i32_15 c1_i32_16 k0_t4
  let c2_i32 : BitVec 32 := 2#32
  let v41 : BitVec 32 := Scalar.muli arg16 c2_i32
  let c128_i32 : BitVec 32 := 128#32
  let v42 : BitVec 32 := Scalar.muli v41 c128_i32
  let v44 : Index := Scalar.indexCast v42
  ![0, v43.toNat, v44.toNat]
def k0_off7 (k0_t3 : Fin k0_t3_loop.trips) (k0_t4 : Fin k0_t4_loop.trips) (c0_i32_21 : BitVec 32) (c0_i32_22 : BitVec 32) : Fin 5 → Nat :=
  let c0_23 : Index := 0#32
  let c2_i32_20 : BitVec 32 := 2#32
  let c0_i32_15 : BitVec 32 := 0#32
  let c1_i32_16 : BitVec 32 := 1#32
  let arg16 : BitVec 32 := Scf.iv c0_i32_15 c1_i32_16 k0_t4
  let v47 : BitVec 32 := Scalar.muli c2_i32_20 arg16
  let v48 : BitVec 32 := Scalar.addi v47 c0_i32_21
  let v50 : Index := Scalar.indexCast v48
  let c0_i32_13 : BitVec 32 := 0#32
  let c0_i32_7 : BitVec 32 := 0#32
  let c1_i32_8 : BitVec 32 := 1#32
  let arg15 : BitVec 32 := Scf.iv c0_i32_7 c1_i32_8 k0_t3
  let c1_i32_12 : BitVec 32 := 1#32
  let v30 : BitVec 32 := Scalar.muli arg15 c1_i32_12
  let v31 : BitVec 32 := Scalar.addi c0_i32_13 v30
  let v49 : BitVec 32 := Scalar.addi c0_i32_22 v31
  let v51 : Index := Scalar.indexCast v49
  let c0_24 : Index := 0#32
  ![0, v50.toNat, v51.toNat, 0, 0]
def k0_off8 (k0_t3 : Fin k0_t3_loop.trips) (k0_t4 : Fin k0_t4_loop.trips) (c0_i32_208 : BitVec 32) (c0_i32_209 : BitVec 32) : Fin 5 → Nat :=
  let c1 : Index := 1#32
  let c2_i32_207 : BitVec 32 := 2#32
  let c0_i32_15 : BitVec 32 := 0#32
  let c1_i32_16 : BitVec 32 := 1#32
  let arg16 : BitVec 32 := Scf.iv c0_i32_15 c1_i32_16 k0_t4
  let v393 : BitVec 32 := Scalar.muli c2_i32_207 arg16
  let v394 : BitVec 32 := Scalar.addi v393 c0_i32_208
  let v396 : Index := Scalar.indexCast v394
  let c0_i32_13 : BitVec 32 := 0#32
  let c0_i32_7 : BitVec 32 := 0#32
  let c1_i32_8 : BitVec 32 := 1#32
  let arg15 : BitVec 32 := Scf.iv c0_i32_7 c1_i32_8 k0_t3
  let c1_i32_12 : BitVec 32 := 1#32
  let v30 : BitVec 32 := Scalar.muli arg15 c1_i32_12
  let v31 : BitVec 32 := Scalar.addi c0_i32_13 v30
  let v395 : BitVec 32 := Scalar.addi c0_i32_209 v31
  let v397 : Index := Scalar.indexCast v395
  let c0_210 : Index := 0#32
  ![1, v396.toNat, v397.toNat, 0, 0]
def k0_off9 (k0_t3 : Fin k0_t3_loop.trips) (k0_t4 : Fin k0_t4_loop.trips) (c0_i32_407 : BitVec 32) (c0_i32_408 : BitVec 32) : Fin 5 → Nat :=
  let c2 : Index := 2#32
  let c2_i32_406 : BitVec 32 := 2#32
  let c0_i32_15 : BitVec 32 := 0#32
  let c1_i32_16 : BitVec 32 := 1#32
  let arg16 : BitVec 32 := Scf.iv c0_i32_15 c1_i32_16 k0_t4
  let v739 : BitVec 32 := Scalar.muli c2_i32_406 arg16
  let v740 : BitVec 32 := Scalar.addi v739 c0_i32_407
  let v742 : Index := Scalar.indexCast v740
  let c0_i32_13 : BitVec 32 := 0#32
  let c0_i32_7 : BitVec 32 := 0#32
  let c1_i32_8 : BitVec 32 := 1#32
  let arg15 : BitVec 32 := Scf.iv c0_i32_7 c1_i32_8 k0_t3
  let c1_i32_12 : BitVec 32 := 1#32
  let v30 : BitVec 32 := Scalar.muli arg15 c1_i32_12
  let v31 : BitVec 32 := Scalar.addi c0_i32_13 v30
  let v741 : BitVec 32 := Scalar.addi c0_i32_408 v31
  let v743 : Index := Scalar.indexCast v741
  let c0_409 : Index := 0#32
  ![2, v742.toNat, v743.toNat, 0, 0]
def k0_off10 (k0_t3 : Fin k0_t3_loop.trips) (k0_t4 : Fin k0_t4_loop.trips) (c0_i32_607 : BitVec 32) : Fin 2 → Nat :=
  let c0_i32_13 : BitVec 32 := 0#32
  let c0_i32_7 : BitVec 32 := 0#32
  let c1_i32_8 : BitVec 32 := 1#32
  let arg15 : BitVec 32 := Scf.iv c0_i32_7 c1_i32_8 k0_t3
  let c1_i32_12 : BitVec 32 := 1#32
  let v30 : BitVec 32 := Scalar.muli arg15 c1_i32_12
  let v31 : BitVec 32 := Scalar.addi c0_i32_13 v30
  let c32_i32_14 : BitVec 32 := 32#32
  let v32 : BitVec 32 := Scalar.muli v31 c32_i32_14
  let v1102 : Index := Scalar.indexCast v32
  let c2_i32_606 : BitVec 32 := 2#32
  let c0_i32_15 : BitVec 32 := 0#32
  let c1_i32_16 : BitVec 32 := 1#32
  let arg16 : BitVec 32 := Scf.iv c0_i32_15 c1_i32_16 k0_t4
  let v1096 : BitVec 32 := Scalar.muli c2_i32_606 arg16
  let v1097 : BitVec 32 := Scalar.addi v1096 c0_i32_607
  let c128_i32_608 : BitVec 32 := 128#32
  let v1098 : BitVec 32 := Scalar.muli v1097 c128_i32_608
  let v1103 : Index := Scalar.indexCast v1098
  ![v1102.toNat, v1103.toNat]
def k0_cond1 (i : grid0.Coords) : BitVec 1 :=
  let arg1 : BitVec 32 := BitVec.ofNat 32 (i 1).val
  let c1_i32_10 : BitVec 32 := 1#32
  let v27 : BitVec 1 := Scalar.cmpi .eq arg1 c1_i32_10
  let v28 : BitVec 32 := Scalar.extui v27
  let c0_i32_11 : BitVec 32 := 0#32
  let v29 : BitVec 1 := Scalar.cmpi .ne v28 c0_i32_11
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x128x768 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x768 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S12x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S64x3840x1536 : Shape := ⟨3, ![64, 3840, 1536]⟩
abbrev S64x3840x12 : Shape := ⟨3, ![64, 3840, 12]⟩
abbrev S3840x1536 : Shape := ⟨2, ![3840, 1536]⟩
abbrev S12x3840 : Shape := ⟨2, ![12, 3840]⟩
abbrev S64x3840x12x128 : Shape := ⟨4, ![64, 3840, 12, 128]⟩
abbrev S64x3840x12x1 : Shape := ⟨4, ![64, 3840, 12, 1]⟩
abbrev S3840x12x128 : Shape := ⟨3, ![3840, 12, 128]⟩
abbrev S3840x12 : Shape := ⟨2, ![3840, 12]⟩
abbrev S3840x12x247 : Shape := ⟨3, ![3840, 12, 247]⟩
abbrev S3840x12x1 : Shape := ⟨3, ![3840, 12, 1]⟩

abbrev nBuf : Space → Nat
  | .hbm => 11
  | .vmem => 11
  | .smem => 0
  | _ => 0

abbrev bufTy : (tb : Table) → Fin (tcTables nBuf tb) → BufTy
  | .hbm, ⟨0, _⟩ => ⟨S64x3840x1536, .fp8e5m2⟩
  | .hbm, ⟨1, _⟩ => ⟨S64x3840x12, .f32⟩
  | .hbm, ⟨2, _⟩ => ⟨S3840x1536, .f32⟩
  | .hbm, ⟨3, _⟩ => ⟨S3840x1536, .f32⟩
  | .hbm, ⟨4, _⟩ => ⟨S3840x1536, .f32⟩
  | .hbm, ⟨5, _⟩ => ⟨S3840x1536, .f32⟩
  | .hbm, ⟨6, _⟩ => ⟨S3840x1536, .f32⟩
  | .hbm, ⟨7, _⟩ => ⟨S3840x1536, .f32⟩
  | .hbm, ⟨8, _⟩ => ⟨S3840x1536, .f32⟩
  | .hbm, ⟨9, _⟩ => ⟨S3840x1536, .fp8e4m3⟩
  | .hbm, ⟨10, _⟩ => ⟨S12x3840, .f32⟩
  | .local _ .vmem, ⟨0, _⟩ => ⟨S64x3840x1536, .fp8e5m2⟩
  | .local _ .vmem, ⟨1, _⟩ => ⟨S64x3840x12, .f32⟩
  | .local _ .vmem, ⟨2, _⟩ => ⟨S3840x1536, .f32⟩
  | .local _ .vmem, ⟨3, _⟩ => ⟨S3840x1536, .f32⟩
  | .local _ .vmem, ⟨4, _⟩ => ⟨S3840x1536, .f32⟩
  | .local _ .vmem, ⟨5, _⟩ => ⟨S3840x1536, .f32⟩
  | .local _ .vmem, ⟨6, _⟩ => ⟨S3840x1536, .f32⟩
  | .local _ .vmem, ⟨7, _⟩ => ⟨S3840x1536, .f32⟩
  | .local _ .vmem, ⟨8, _⟩ => ⟨S3840x1536, .f32⟩
  | .local _ .vmem, ⟨9, _⟩ => ⟨S3840x1536, .fp8e4m3⟩
  | .local _ .vmem, ⟨10, _⟩ => ⟨S12x3840, .f32⟩
  | _, _ => ⟨S64x3840x1536, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S64x3840x1536 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x3840x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3840x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3840x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3840x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3840x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3840x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3840x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3840x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3840x1536 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x3840 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.BodyKernel.lean ====
/- The frame of `Kernel`: the two nested loops by invariants that keep what is read at its contents and hold what is
   written at some contents, the body at a generic point, and the launch with the results' contents left unsaid. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [BitOps F]

local notation "𝕄" => MT nD τ sig Unit (Elt F) ℕ (UR sig nD τ) ℕ

set_option warn.classDefReducibility false in
/-- The outer loop that fills the scale rows: its input read in place, the rows at some contents. -/
@[sl_loop] def loopInv_k0_t1 (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x128 .i32) (harg13 : arg13.IsWhole) (arg14 : Memref sig .tc .vmem S128x128 .f32) (harg14 : arg14.IsWhole) (X3 : BufTy.Contents (Elt F) arg3.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 where
  inv _ _ := iprop((arg3.view.loc (c : Thread nD τ) ↦[arg3.view.set]{fullShare} X3) ∗ (∃ f, (arg13.view.loc (c : Thread nD τ) ↦[arg13.view.set]{fullShare} f)))
  step k acc := by
    unfold k0_t1_body
    iintro ⟨H3, ⟨%f13, H13⟩⟩
    sl_exec
    sl_step
    isplitl [H3]; · iexact H3
    iexists _; iexact H13

set_option warn.classDefReducibility false in
/-- The outer loop over the row chunks: its inputs read in place, its results and the stage at some contents. -/
@[sl_loop] def loopInv_k0_t3 (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x128 .i32) (harg13 : arg13.IsWhole) (arg14 : Memref sig .tc .vmem S128x128 .f32) (harg14 : arg14.IsWhole) (arg1 : BitVec 32) (v25 : IVec S32x128 32) (X2 : BufTy.Contents (Elt F) arg2.view.ty) (X4 : BufTy.Contents (Elt F) arg4.view.ty) (X5 : BufTy.Contents (Elt F) arg5.view.ty) (X6 : BufTy.Contents (Elt F) arg6.view.ty) (X13 : BufTy.Contents (Elt F) arg13.view.ty) :
    LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg1 v25 where
  inv _ _ := iprop((arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg13.view.loc (c : Thread nD τ) ↦[arg13.view.set]{fullShare} X13) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg14.view.loc (c : Thread nD τ) ↦[arg14.view.set]{fullShare} f)))
  step k acc := by
    unfold k0_t3_body
    iintro ⟨H2, H4, H5, H6, H13, ⟨%f7, H7⟩, ⟨%f8, H8⟩, ⟨%f9, H9⟩, ⟨%f10, H10⟩, ⟨%f11, H11⟩, ⟨%f14, H14⟩⟩
    sl_exec
    sl_step
    isplitl [H2]; · iexact H2
    isplitl [H4]; · iexact H4
    isplitl [H5]; · iexact H5
    isplitl [H6]; · iexact H6
    isplitl [H13]; · iexact H13
    isplitl [H7]; · iexists _; iexact H7
    isplitl [H8]; · iexists _; iexact H8
    isplitl [H9]; · iexists _; iexact H9
    isplitl [H10]; · iexists _; iexact H10
    isplitl [H11]; · iexists _; iexact H11
    iexists _; iexact H14

set_option maxHeartbeats 1000000 in
/-- The body on whole staging memrefs: what it reads stays, what it writes ends at something. -/
theorem sound_kernel (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x128 .i32) (harg13 : arg13.IsWhole) (arg14 : Memref sig .tc .vmem S128x128 .f32) (harg14 : arg14.IsWhole) (x2 : Vec F S64x128x768 .fp8e5m2) (x3 : Vec F S6x64x128 .f32) (x4 : Vec F S128x768 .f32) (x5 : Vec F S128x768 .f32) (x6 : Vec F S128x768 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) Set.univ (cc0_zero_adamw i arg2 harg2 arg3 harg3 arg4 harg4 arg5 harg5 arg6 harg6 arg7 harg7 arg8 harg8 arg9 harg9 arg10 harg10 arg11 harg11 arg12 harg12 arg13 harg13 arg14 harg14) K := by
  simp only [cc0_zero_adamw_eq_skeleton]; unfold cc0_zero_adamw_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf2 hf3 hf4 hf5 hf6
  sl_exec
  all_goals
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.Proof.Kernel

end
-- ==== Proof.RunKernel.lean ====
/- The frame of `Kernel`: the launch over the body's triple, with the results' contents left unsaid. -/
module

public import proofs.«01_k».proof.Proof.BodyKernel

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The windows whose contents the frame leaves unsaid: the results. -/
def fgt : Fin cfg0.W → Bool := fun w => decide (5 ≤ w.val)

/-- The proof data of the frame: each input's block in place, the results unnamed, the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨w + 5, h⟩ => Pipeline.Dat.unnamed (cfg := cfg0) ⟨w + 5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))
/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

/-- The class's invariant: the two scratch buffers at some contents, and the generator's register. -/
theorem ΦA_eq (c : Dev nD) : (Pipeline.ΦA spec0 c : sProp 𝕄)
    = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) ∗ ∃ r, prngReg c r) := by
  unfold Pipeline.ΦA; rw [scopedRest0_eq]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, ΦA_eq]
  iintro ⟨⟨⟨⟨%g13, G13⟩, ⟨%g14, G14⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [G13]; · iexists g13; irw [owns_whole (c : Thread nD τ) cc0_scratch0 fullShare g13]; iexact G13
  isplitl [G14]; · iexists g14; irw [owns_whole (c : Thread nD τ) cc0_scratch1 fullShare g14]; iexact G14
  iintro ⟨H0, H1, H2, H3, H4, ⟨%e5, H5⟩, ⟨%e6, H6⟩, ⟨%e7, H7⟩, ⟨%e8, H8⟩, ⟨%e9, H9⟩, ⟨%e10, H10⟩, ⟨%e13, G13⟩, ⟨%e14, G14⟩⟩
  isplitl [G13 G14 Hr]
  · isplitl [G13 G14]
    · isplitl [G13]
      · iexists e13; irw [← owns_whole (c : Thread nD τ) cc0_scratch0 fullShare e13]; iexact G13
      · iexists e14; irw [← owns_whole (c : Thread nD τ) cc0_scratch1 fullShare e14]; iexact G14
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch: every array of an input as it was, the counters at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c))⟩, h.2⟩) (run_main m ρ)

end Cert.Proof.Kernel

end
-- ==== Proof.BodyKernelIdeal.lean ====
/- The frame of `KernelIdeal`: the two nested loops by invariants that keep what is read at its contents and hold what is
   written at some contents, the body at a generic point, and the launch with the results' contents left unsaid. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

set_option warn.classDefReducibility false in
/-- The outer loop that fills the scale rows: its input read in place, the rows at some contents. -/
@[sl_loop] def loopInv_k0_t1 (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole) (X3 : BufTy.Contents (Elt F) arg3.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 where
  inv _ _ := iprop((arg3.view.loc (c : Thread nD τ) ↦[arg3.view.set]{fullShare} X3) ∗ (∃ f, (arg13.view.loc (c : Thread nD τ) ↦[arg13.view.set]{fullShare} f)))
  step k acc := by
    unfold k0_t1_body
    iintro ⟨H3, ⟨%f13, H13⟩⟩
    sl_exec
    sl_step
    isplitl [H3]; · iexact H3
    iexists _; iexact H13

set_option warn.classDefReducibility false in
/-- The outer loop over the row chunks: its inputs read in place, its results and the stage at some contents. -/
@[sl_loop] def loopInv_k0_t3 (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole) (arg1 : BitVec 32) (v25 : IVec S32x128 32) (X2 : BufTy.Contents (Elt F) arg2.view.ty) (X4 : BufTy.Contents (Elt F) arg4.view.ty) (X5 : BufTy.Contents (Elt F) arg5.view.ty) (X6 : BufTy.Contents (Elt F) arg6.view.ty) (X13 : BufTy.Contents (Elt F) arg13.view.ty) :
    LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg1 v25 where
  inv _ _ := iprop((arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg13.view.loc (c : Thread nD τ) ↦[arg13.view.set]{fullShare} X13) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg14.view.loc (c : Thread nD τ) ↦[arg14.view.set]{fullShare} f)))
  step k acc := by
    unfold k0_t3_body
    iintro ⟨H2, H4, H5, H6, H13, ⟨%f7, H7⟩, ⟨%f8, H8⟩, ⟨%f9, H9⟩, ⟨%f10, H10⟩, ⟨%f11, H11⟩, ⟨%f14, H14⟩⟩
    sl_exec
    sl_step
    isplitl [H2]; · iexact H2
    isplitl [H4]; · iexact H4
    isplitl [H5]; · iexact H5
    isplitl [H6]; · iexact H6
    isplitl [H13]; · iexact H13
    isplitl [H7]; · iexists _; iexact H7
    isplitl [H8]; · iexists _; iexact H8
    isplitl [H9]; · iexists _; iexact H9
    isplitl [H10]; · iexists _; iexact H10
    isplitl [H11]; · iexists _; iexact H11
    iexists _; iexact H14

set_option maxHeartbeats 1000000 in
/-- The body on whole staging memrefs: what it reads stays, what it writes ends at something. -/
theorem sound_kernel (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole) (x2 : Vec F S64x128x768 .fp8e5m2) (x3 : Vec F S6x64x128 .f32) (x4 : Vec F S128x768 .f32) (x5 : Vec F S128x768 .f32) (x6 : Vec F S128x768 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) Set.univ (cc0_zero_adamw i arg2 harg2 arg3 harg3 arg4 harg4 arg5 harg5 arg6 harg6 arg7 harg7 arg8 harg8 arg9 harg9 arg10 harg10 arg11 harg11 arg12 harg12 arg13 harg13 arg14 harg14) K := by
  simp only [cc0_zero_adamw_eq_skeleton]; unfold cc0_zero_adamw_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf2 hf3 hf4 hf5 hf6
  sl_exec
  all_goals
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.Proof.KernelIdeal

end
-- ==== Proof.RunKernelIdeal.lean ====
/- The frame of `KernelIdeal`: the launch over the body's triple, with the results' contents left unsaid. -/
module

public import proofs.«01_k».proof.Proof.BodyKernelIdeal

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents the frame leaves unsaid: the results. -/
def fgt : Fin cfg0.W → Bool := fun w => decide (5 ≤ w.val)

/-- The proof data of the frame: each input's block in place, the results unnamed, the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨w + 5, h⟩ => Pipeline.Dat.unnamed (cfg := cfg0) ⟨w + 5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))
/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

/-- The class's invariant: the two scratch buffers at some contents, and the generator's register. -/
theorem ΦA_eq (c : Dev nD) : (Pipeline.ΦA spec0 c : sProp 𝕄)
    = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) ∗ ∃ r, prngReg c r) := by
  unfold Pipeline.ΦA; rw [scopedRest0_eq]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, ΦA_eq]
  iintro ⟨⟨⟨⟨%g13, G13⟩, ⟨%g14, G14⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [G13]; · iexists g13; irw [owns_whole (c : Thread nD τ) cc0_scratch0 fullShare g13]; iexact G13
  isplitl [G14]; · iexists g14; irw [owns_whole (c : Thread nD τ) cc0_scratch1 fullShare g14]; iexact G14
  iintro ⟨H0, H1, H2, H3, H4, ⟨%e5, H5⟩, ⟨%e6, H6⟩, ⟨%e7, H7⟩, ⟨%e8, H8⟩, ⟨%e9, H9⟩, ⟨%e10, H10⟩, ⟨%e13, G13⟩, ⟨%e14, G14⟩⟩
  isplitl [G13 G14 Hr]
  · isplitl [G13 G14]
    · isplitl [G13]
      · iexists e13; irw [← owns_whole (c : Thread nD τ) cc0_scratch0 fullShare e13]; iexact G13
      · iexists e14; irw [← owns_whole (c : Thread nD τ) cc0_scratch1 fullShare e14]; iexact G14
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch: every array of an input as it was, the counters at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c))⟩, h.2⟩) (run_main m ρ)

end Cert.Proof.KernelIdeal

end
-- ==== Proof.LoopV.lean ====
/- The two outer loops of `KernelIdeal` with what they write named: the pieces of each inner loop's run put in front of the
   pieces written before. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.WritesUnit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- The pieces one trip of the outer row loop puts in front. -/
@[irreducible] def rowsStep (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole) (X3 : BufTy.Contents (Elt F) arg3.view.ty) (k : ℕ) (prev : List (View.Piece (Elt F) S3x6x64x2x128 .bf16)) : List (View.Piece (Elt F) S3x6x64x2x128 .bf16) :=
  if h : k < k0_t1_loop.trips then
    pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 ⟨k, h⟩ (Scalar.addi 0#32 (Scalar.muli (Scf.iv 0#32 1#32 (⟨k, h⟩ : Fin k0_t1_loop.trips)) 1#32)) X3 k0_t2_loop.trips ++ prev
  else prev

/-- The pieces of the outer row loop's first `k` trips, newest first. -/
def rowsPb (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole) (X3 : BufTy.Contents (Elt F) arg3.view.ty) : ℕ → List (View.Piece (Elt F) S3x6x64x2x128 .bf16)
  | 0 => []
  | k + 1 => rowsStep c i arg2 harg2 arg3 harg3 arg4 harg4 arg5 harg5 arg6 harg6 arg7 harg7 arg8 harg8 arg9 harg9 arg10 harg10 arg11 harg11 arg12 harg12 arg13 harg13 arg14 harg14 X3 k (rowsPb c i arg2 harg2 arg3 harg3 arg4 harg4 arg5 harg5 arg6 harg6 arg7 harg7 arg8 harg8 arg9 harg9 arg10 harg10 arg11 harg11 arg12 harg12 arg13 harg13 arg14 harg14 X3 k)

theorem rowsPb_succ (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole) (X3 : BufTy.Contents (Elt F) arg3.view.ty) (k : Fin k0_t1_loop.trips) :
    rowsPb (F := F) c i arg2 harg2 arg3 harg3 arg4 harg4 arg5 harg5 arg6 harg6 arg7 harg7 arg8 harg8 arg9 harg9 arg10 harg10 arg11 harg11 arg12 harg12 arg13 harg13 arg14 harg14 X3 (k.val + 1)
      = pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 k (Scalar.addi 0#32 (Scalar.muli (Scf.iv 0#32 1#32 k) 1#32)) X3 k0_t2_loop.trips ++ rowsPb (F := F) c i arg2 harg2 arg3 harg3 arg4 harg4 arg5 harg5 arg6 harg6 arg7 harg7 arg8 harg8 arg9 harg9 arg10 harg10 arg11 harg11 arg12 harg12 arg13 harg13 arg14 harg14 X3 k.val := by
  rw [rowsPb.eq_2]; unfold rowsStep; exact dif_pos k.isLt

set_option warn.classDefReducibility false in
/-- The outer row loop: its input in place, the rows at the pieces written so far. -/
@[sl_loop] def loopV_t1 (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole) (X3 : BufTy.Contents (Elt F) arg3.view.ty) (G13 : BufTy.Contents (Elt F) arg13.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 where
  inv k _ := iprop((arg3.view.loc (c : Thread nD τ) ↦[arg3.view.set]{fullShare} X3) ∗ (∃ f, (arg13.view.loc (c : Thread nD τ) ↦[arg13.view.set]{fullShare} f) ∗ ⌜f = arg13.view.writes (Elt F) G13 (rowsPb (F := F) c i arg2 harg2 arg3 harg3 arg4 harg4 arg5 harg5 arg6 harg6 arg7 harg7 arg8 harg8 arg9 harg9 arg10 harg10 arg11 harg11 arg12 harg12 arg13 harg13 arg14 harg14 X3 k)⌝))
  step k acc := by
    unfold k0_t1_body
    iintro ⟨H3, ⟨%f13, H13, %h13⟩⟩
    sl_exec
    sl_step
    isplitl [H3]; · iexact H3
    rw [rowsPb_succ]
    iexists _; isplitl [H13]; · iexact H13
    ipureintro; rw [h13, ← View.writes_append]; rfl

/-- The pieces one trip of the loop over row chunks puts in front, per written buffer; the stage is read back where it was written. -/
@[irreducible] def outStep (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole) (arg1 : BitVec 32) (v25 : IVec S32x128 32) (X2 : BufTy.Contents (Elt F) arg2.view.ty) (X4 : BufTy.Contents (Elt F) arg4.view.ty) (X5 : BufTy.Contents (Elt F) arg5.view.ty) (X6 : BufTy.Contents (Elt F) arg6.view.ty) (X13 : BufTy.Contents (Elt F) arg13.view.ty) (G14 : BufTy.Contents (Elt F) arg14.view.ty) (k : ℕ) (prev : List (View.Piece (Elt F) S128x768 .f32) × List (View.Piece (Elt F) S128x768 .f32) × List (View.Piece (Elt F) S128x768 .f32) × List (View.Piece (Elt F) S128x768 .f32) × List (View.Piece (Elt F) S128x768 .fp8e4m3) × List (View.Piece (Elt F) S128x128 .f32)) : List (View.Piece (Elt F) S128x768 .f32) × List (View.Piece (Elt F) S128x768 .f32) × List (View.Piece (Elt F) S128x768 .f32) × List (View.Piece (Elt F) S128x768 .f32) × List (View.Piece (Elt F) S128x768 .fp8e4m3) × List (View.Piece (Elt F) S128x128 .f32) :=
  if h : k < k0_t3_loop.trips then
    ((st_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg1 v25 (⟨k, h⟩ : Fin k0_t3_loop.trips) (Scalar.addi 0#32 (Scalar.muli (Scf.iv 0#32 1#32 (⟨k, h⟩ : Fin k0_t3_loop.trips)) 1#32)) (Scalar.muli (Scalar.addi 0#32 (Scalar.muli (Scf.iv 0#32 1#32 (⟨k, h⟩ : Fin k0_t3_loop.trips)) 1#32)) 32#32) X2 X4 X5 X6 X13 (arg14.view.readAt (Elt F) (Rect.unit (s := S128x128) (k0_off5 (⟨k, h⟩ : Fin k0_t3_loop.trips)) S32x128.size (k0_off5_inb (⟨k, h⟩ : Fin k0_t3_loop.trips))).toLoadRect (arg14.view.writes (Elt F) G14 prev.2.2.2.2.2)) k0_t4_loop.trips).2.1 ++ prev.1, (st_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg1 v25 (⟨k, h⟩ : Fin k0_t3_loop.trips) (Scalar.addi 0#32 (Scalar.muli (Scf.iv 0#32 1#32 (⟨k, h⟩ : Fin k0_t3_loop.trips)) 1#32)) (Scalar.muli (Scalar.addi 0#32 (Scalar.muli (Scf.iv 0#32 1#32 (⟨k, h⟩ : Fin k0_t3_loop.trips)) 1#32)) 32#32) X2 X4 X5 X6 X13 (arg14.view.readAt (Elt F) (Rect.unit (s := S128x128) (k0_off5 (⟨k, h⟩ : Fin k0_t3_loop.trips)) S32x128.size (k0_off5_inb (⟨k, h⟩ : Fin k0_t3_loop.trips))).toLoadRect (arg14.view.writes (Elt F) G14 prev.2.2.2.2.2)) k0_t4_loop.trips).2.2.1 ++ prev.2.1, (st_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg1 v25 (⟨k, h⟩ : Fin k0_t3_loop.trips) (Scalar.addi 0#32 (Scalar.muli (Scf.iv 0#32 1#32 (⟨k, h⟩ : Fin k0_t3_loop.trips)) 1#32)) (Scalar.muli (Scalar.addi 0#32 (Scalar.muli (Scf.iv 0#32 1#32 (⟨k, h⟩ : Fin k0_t3_loop.trips)) 1#32)) 32#32) X2 X4 X5 X6 X13 (arg14.view.readAt (Elt F) (Rect.unit (s := S128x128) (k0_off5 (⟨k, h⟩ : Fin k0_t3_loop.trips)) S32x128.size (k0_off5_inb (⟨k, h⟩ : Fin k0_t3_loop.trips))).toLoadRect (arg14.view.writes (Elt F) G14 prev.2.2.2.2.2)) k0_t4_loop.trips).2.2.2.1 ++ prev.2.2.1, (st_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg1 v25 (⟨k, h⟩ : Fin k0_t3_loop.trips) (Scalar.addi 0#32 (Scalar.muli (Scf.iv 0#32 1#32 (⟨k, h⟩ : Fin k0_t3_loop.trips)) 1#32)) (Scalar.muli (Scalar.addi 0#32 (Scalar.muli (Scf.iv 0#32 1#32 (⟨k, h⟩ : Fin k0_t3_loop.trips)) 1#32)) 32#32) X2 X4 X5 X6 X13 (arg14.view.readAt (Elt F) (Rect.unit (s := S128x128) (k0_off5 (⟨k, h⟩ : Fin k0_t3_loop.trips)) S32x128.size (k0_off5_inb (⟨k, h⟩ : Fin k0_t3_loop.trips))).toLoadRect (arg14.view.writes (Elt F) G14 prev.2.2.2.2.2)) k0_t4_loop.trips).2.2.2.2.1 ++ prev.2.2.2.1, (st_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg1 v25 (⟨k, h⟩ : Fin k0_t3_loop.trips) (Scalar.addi 0#32 (Scalar.muli (Scf.iv 0#32 1#32 (⟨k, h⟩ : Fin k0_t3_loop.trips)) 1#32)) (Scalar.muli (Scalar.addi 0#32 (Scalar.muli (Scf.iv 0#32 1#32 (⟨k, h⟩ : Fin k0_t3_loop.trips)) 1#32)) 32#32) X2 X4 X5 X6 X13 (arg14.view.readAt (Elt F) (Rect.unit (s := S128x128) (k0_off5 (⟨k, h⟩ : Fin k0_t3_loop.trips)) S32x128.size (k0_off5_inb (⟨k, h⟩ : Fin k0_t3_loop.trips))).toLoadRect (arg14.view.writes (Elt F) G14 prev.2.2.2.2.2)) k0_t4_loop.trips).2.2.2.2.2 ++ prev.2.2.2.2.1, (⟨Rect.unit (s := S128x128) (k0_off5 (⟨k, h⟩ : Fin k0_t3_loop.trips)) S32x128.size (k0_off5_inb (⟨k, h⟩ : Fin k0_t3_loop.trips)), k0_pay7 (st_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg1 v25 (⟨k, h⟩ : Fin k0_t3_loop.trips) (Scalar.addi 0#32 (Scalar.muli (Scf.iv 0#32 1#32 (⟨k, h⟩ : Fin k0_t3_loop.trips)) 1#32)) (Scalar.muli (Scalar.addi 0#32 (Scalar.muli (Scf.iv 0#32 1#32 (⟨k, h⟩ : Fin k0_t3_loop.trips)) 1#32)) 32#32) X2 X4 X5 X6 X13 (arg14.view.readAt (Elt F) (Rect.unit (s := S128x128) (k0_off5 (⟨k, h⟩ : Fin k0_t3_loop.trips)) S32x128.size (k0_off5_inb (⟨k, h⟩ : Fin k0_t3_loop.trips))).toLoadRect (arg14.view.writes (Elt F) G14 prev.2.2.2.2.2)) k0_t4_loop.trips).1⟩ : View.Piece (Elt F) S128x128 .f32) :: prev.2.2.2.2.2)
  else prev

/-- The pieces of the first `k` row chunks, newest first. -/
def outPb (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole) (arg1 : BitVec 32) (v25 : IVec S32x128 32) (X2 : BufTy.Contents (Elt F) arg2.view.ty) (X4 : BufTy.Contents (Elt F) arg4.view.ty) (X5 : BufTy.Contents (Elt F) arg5.view.ty) (X6 : BufTy.Contents (Elt F) arg6.view.ty) (X13 : BufTy.Contents (Elt F) arg13.view.ty) (G14 : BufTy.Contents (Elt F) arg14.view.ty) : ℕ → List (View.Piece (Elt F) S128x768 .f32) × List (View.Piece (Elt F) S128x768 .f32) × List (View.Piece (Elt F) S128x768 .f32) × List (View.Piece (Elt F) S128x768 .f32) × List (View.Piece (Elt F) S128x768 .fp8e4m3) × List (View.Piece (Elt F) S128x128 .f32)
  | 0 => ([], [], [], [], [], [])
  | k + 1 => outStep c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k (outPb c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k)

theorem outPb_succ (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole) (arg1 : BitVec 32) (v25 : IVec S32x128 32) (X2 : BufTy.Contents (Elt F) arg2.view.ty) (X4 : BufTy.Contents (Elt F) arg4.view.ty) (X5 : BufTy.Contents (Elt F) arg5.view.ty) (X6 : BufTy.Contents (Elt F) arg6.view.ty) (X13 : BufTy.Contents (Elt F) arg13.view.ty) (G14 : BufTy.Contents (Elt F) arg14.view.ty) (k : Fin k0_t3_loop.trips) :
    outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 (k.val + 1)
      = ((st_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg1 v25 k (Scalar.addi 0#32 (Scalar.muli (Scf.iv 0#32 1#32 k) 1#32)) (Scalar.muli (Scalar.addi 0#32 (Scalar.muli (Scf.iv 0#32 1#32 k) 1#32)) 32#32) X2 X4 X5 X6 X13 (arg14.view.readAt (Elt F) (Rect.unit (s := S128x128) (k0_off5 k) S32x128.size (k0_off5_inb k)).toLoadRect (arg14.view.writes (Elt F) G14 (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k.val).2.2.2.2.2)) k0_t4_loop.trips).2.1 ++ (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k.val).1, (st_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg1 v25 k (Scalar.addi 0#32 (Scalar.muli (Scf.iv 0#32 1#32 k) 1#32)) (Scalar.muli (Scalar.addi 0#32 (Scalar.muli (Scf.iv 0#32 1#32 k) 1#32)) 32#32) X2 X4 X5 X6 X13 (arg14.view.readAt (Elt F) (Rect.unit (s := S128x128) (k0_off5 k) S32x128.size (k0_off5_inb k)).toLoadRect (arg14.view.writes (Elt F) G14 (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k.val).2.2.2.2.2)) k0_t4_loop.trips).2.2.1 ++ (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k.val).2.1, (st_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg1 v25 k (Scalar.addi 0#32 (Scalar.muli (Scf.iv 0#32 1#32 k) 1#32)) (Scalar.muli (Scalar.addi 0#32 (Scalar.muli (Scf.iv 0#32 1#32 k) 1#32)) 32#32) X2 X4 X5 X6 X13 (arg14.view.readAt (Elt F) (Rect.unit (s := S128x128) (k0_off5 k) S32x128.size (k0_off5_inb k)).toLoadRect (arg14.view.writes (Elt F) G14 (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k.val).2.2.2.2.2)) k0_t4_loop.trips).2.2.2.1 ++ (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k.val).2.2.1, (st_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg1 v25 k (Scalar.addi 0#32 (Scalar.muli (Scf.iv 0#32 1#32 k) 1#32)) (Scalar.muli (Scalar.addi 0#32 (Scalar.muli (Scf.iv 0#32 1#32 k) 1#32)) 32#32) X2 X4 X5 X6 X13 (arg14.view.readAt (Elt F) (Rect.unit (s := S128x128) (k0_off5 k) S32x128.size (k0_off5_inb k)).toLoadRect (arg14.view.writes (Elt F) G14 (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k.val).2.2.2.2.2)) k0_t4_loop.trips).2.2.2.2.1 ++ (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k.val).2.2.2.1, (st_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg1 v25 k (Scalar.addi 0#32 (Scalar.muli (Scf.iv 0#32 1#32 k) 1#32)) (Scalar.muli (Scalar.addi 0#32 (Scalar.muli (Scf.iv 0#32 1#32 k) 1#32)) 32#32) X2 X4 X5 X6 X13 (arg14.view.readAt (Elt F) (Rect.unit (s := S128x128) (k0_off5 k) S32x128.size (k0_off5_inb k)).toLoadRect (arg14.view.writes (Elt F) G14 (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k.val).2.2.2.2.2)) k0_t4_loop.trips).2.2.2.2.2 ++ (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k.val).2.2.2.2.1, (⟨Rect.unit (s := S128x128) (k0_off5 k) S32x128.size (k0_off5_inb k), k0_pay7 (st_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg1 v25 k (Scalar.addi 0#32 (Scalar.muli (Scf.iv 0#32 1#32 k) 1#32)) (Scalar.muli (Scalar.addi 0#32 (Scalar.muli (Scf.iv 0#32 1#32 k) 1#32)) 32#32) X2 X4 X5 X6 X13 (arg14.view.readAt (Elt F) (Rect.unit (s := S128x128) (k0_off5 k) S32x128.size (k0_off5_inb k)).toLoadRect (arg14.view.writes (Elt F) G14 (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k.val).2.2.2.2.2)) k0_t4_loop.trips).1⟩ : View.Piece (Elt F) S128x128 .f32) :: (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k.val).2.2.2.2.2) := by
  rw [outPb.eq_2]; unfold outStep; exact dif_pos k.isLt

set_option warn.classDefReducibility false in
/-- The loop over row chunks: its inputs in place, each result and the stage at the pieces written so far. -/
@[sl_loop] def loopV_t3 (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole) (arg1 : BitVec 32) (v25 : IVec S32x128 32) (X2 : BufTy.Contents (Elt F) arg2.view.ty) (X4 : BufTy.Contents (Elt F) arg4.view.ty) (X5 : BufTy.Contents (Elt F) arg5.view.ty) (X6 : BufTy.Contents (Elt F) arg6.view.ty) (X13 : BufTy.Contents (Elt F) arg13.view.ty) (G14 : BufTy.Contents (Elt F) arg14.view.ty) (G7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) :
    LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg1 v25 where
  inv k _ := iprop((arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg13.view.loc (c : Thread nD τ) ↦[arg13.view.set]{fullShare} X13) ∗ (∃ f, (arg7.view.loc (c : Thread nD τ) ↦[arg7.view.set]{fullShare} f) ∗ ⌜f = arg7.view.writes (Elt F) G7 (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k).1⌝) ∗ (∃ f, (arg8.view.loc (c : Thread nD τ) ↦[arg8.view.set]{fullShare} f) ∗ ⌜f = arg8.view.writes (Elt F) G8 (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k).2.1⌝) ∗ (∃ f, (arg9.view.loc (c : Thread nD τ) ↦[arg9.view.set]{fullShare} f) ∗ ⌜f = arg9.view.writes (Elt F) G9 (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k).2.2.1⌝) ∗ (∃ f, (arg10.view.loc (c : Thread nD τ) ↦[arg10.view.set]{fullShare} f) ∗ ⌜f = arg10.view.writes (Elt F) G10 (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k).2.2.2.1⌝) ∗ (∃ f, (arg11.view.loc (c : Thread nD τ) ↦[arg11.view.set]{fullShare} f) ∗ ⌜f = arg11.view.writes (Elt F) G11 (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k).2.2.2.2.1⌝) ∗ (∃ f, (arg14.view.loc (c : Thread nD τ) ↦[arg14.view.set]{fullShare} f) ∗ ⌜f = arg14.view.writes (Elt F) G14 (outPb (F := F) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 k).2.2.2.2.2⌝))
  step k acc := by
    unfold k0_t3_body
    iintro ⟨H2, H4, H5, H6, H13, ⟨%f7, H7, %h7⟩, ⟨%f8, H8, %h8⟩, ⟨%f9, H9, %h9⟩, ⟨%f10, H10, %h10⟩, ⟨%f11, H11, %h11⟩, ⟨%f14, H14, %h14⟩⟩
    sl_exec
    sl_step
    subst h14
    rw [outPb_succ]
    isplitl [H2]; · iexact H2
    isplitl [H4]; · iexact H4
    isplitl [H5]; · iexact H5
    isplitl [H6]; · iexact H6
    isplitl [H13]; · iexact H13
    isplitl [H7]
    · iexists _; isplitl [H7]; · iexact H7
      ipureintro; rw [h7, ← View.writes_append]; rfl
    isplitl [H8]
    · iexists _; isplitl [H8]; · iexact H8
      ipureintro; rw [h8, ← View.writes_append]; rfl
    isplitl [H9]
    · iexists _; isplitl [H9]; · iexact H9
      ipureintro; rw [h9, ← View.writes_append]; rfl
    isplitl [H10]
    · iexists _; isplitl [H10]; · iexact H10
      ipureintro; rw [h10, ← View.writes_append]; rfl
    isplitl [H11]
    · iexists _; isplitl [H11]; · iexact H11
      ipureintro; rw [h11, ← View.writes_append]; rfl
    iexists _; isplitl [H14]; · iexact H14
    ipureintro; rfl

end Cert.Proof.KernelIdeal

end
-- ==== Proof.SoundV.lean ====
/- The body of `KernelIdeal` at a generic point, with what it leaves in each result and in the stage named. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.LoopV
public import Idealize.ShloMosaic.Lib.VecWindow

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- What the body leaves, from what it finds: each result is the pieces of the whole loop read back, the stage likewise, and the
    scales are the stage turned at the points that write them. -/
def BodyRel (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole) (x2 : Vec F S64x128x768 .fp8e5m2) (x3 : Vec F S6x64x128 .f32) (x4 : Vec F S128x768 .f32) (x5 : Vec F S128x768 .f32) (x6 : Vec F S128x768 .f32) (x14 : Vec F S128x128 .f32) (e7 : Vec F S128x768 .f32) (e8 : Vec F S128x768 .f32) (e9 : Vec F S128x768 .f32) (e10 : Vec F S128x768 .f32) (e11 : Vec F S128x768 .fp8e4m3) (e12 : Vec F S12x128 .f32) (e14 : Vec F S128x128 .f32) : Prop :=
  ∃ (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (g7 : BufTy.Contents (Elt F) arg7.view.ty) (g8 : BufTy.Contents (Elt F) arg8.view.ty) (g9 : BufTy.Contents (Elt F) arg9.view.ty) (g10 : BufTy.Contents (Elt F) arg10.view.ty) (g11 : BufTy.Contents (Elt F) arg11.view.ty) (g13 : BufTy.Contents (Elt F) arg13.view.ty) (f14 : BufTy.Contents (Elt F) arg14.view.ty),
    arg2.view.read (Elt F) X2 = x2 ∧ arg3.view.read (Elt F) X3 = x3 ∧ arg4.view.read (Elt F) X4 = x4 ∧ arg5.view.read (Elt F) X5 = x5 ∧ arg6.view.read (Elt F) X6 = x6 ∧ arg14.view.read (Elt F) f14 = x14
    ∧ e7 = arg7.view.read (Elt F) (arg7.view.writes (Elt F) g7 (outPb (F := F) c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S32x128 32 [1] iota_S32x128_d1_w32) X2 X4 X5 X6 (arg13.view.writes (Elt F) g13 (rowsPb (F := F) c i arg2 harg2 arg3 harg3 arg4 harg4 arg5 harg5 arg6 harg6 arg7 harg7 arg8 harg8 arg9 harg9 arg10 harg10 arg11 harg11 arg12 harg12 arg13 harg13 arg14 harg14 X3 k0_t1_loop.trips)) f14 k0_t3_loop.trips).1) ∧ e8 = arg8.view.read (Elt F) (arg8.view.writes (Elt F) g8 (outPb (F := F) c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S32x128 32 [1] iota_S32x128_d1_w32) X2 X4 X5 X6 (arg13.view.writes (Elt F) g13 (rowsPb (F := F) c i arg2 harg2 arg3 harg3 arg4 harg4 arg5 harg5 arg6 harg6 arg7 harg7 arg8 harg8 arg9 harg9 arg10 harg10 arg11 harg11 arg12 harg12 arg13 harg13 arg14 harg14 X3 k0_t1_loop.trips)) f14 k0_t3_loop.trips).2.1) ∧ e9 = arg9.view.read (Elt F) (arg9.view.writes (Elt F) g9 (outPb (F := F) c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S32x128 32 [1] iota_S32x128_d1_w32) X2 X4 X5 X6 (arg13.view.writes (Elt F) g13 (rowsPb (F := F) c i arg2 harg2 arg3 harg3 arg4 harg4 arg5 harg5 arg6 harg6 arg7 harg7 arg8 harg8 arg9 harg9 arg10 harg10 arg11 harg11 arg12 harg12 arg13 harg13 arg14 harg14 X3 k0_t1_loop.trips)) f14 k0_t3_loop.trips).2.2.1) ∧ e10 = arg10.view.read (Elt F) (arg10.view.writes (Elt F) g10 (outPb (F := F) c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S32x128 32 [1] iota_S32x128_d1_w32) X2 X4 X5 X6 (arg13.view.writes (Elt F) g13 (rowsPb (F := F) c i arg2 harg2 arg3 harg3 arg4 harg4 arg5 harg5 arg6 harg6 arg7 harg7 arg8 harg8 arg9 harg9 arg10 harg10 arg11 harg11 arg12 harg12 arg13 harg13 arg14 harg14 X3 k0_t1_loop.trips)) f14 k0_t3_loop.trips).2.2.2.1) ∧ e11 = arg11.view.read (Elt F) (arg11.view.writes (Elt F) g11 (outPb (F := F) c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S32x128 32 [1] iota_S32x128_d1_w32) X2 X4 X5 X6 (arg13.view.writes (Elt F) g13 (rowsPb (F := F) c i arg2 harg2 arg3 harg3 arg4 harg4 arg5 harg5 arg6 harg6 arg7 harg7 arg8 harg8 arg9 harg9 arg10 harg10 arg11 harg11 arg12 harg12 arg13 harg13 arg14 harg14 X3 k0_t1_loop.trips)) f14 k0_t3_loop.trips).2.2.2.2.1) ∧ e14 = arg14.view.read (Elt F) (arg14.view.writes (Elt F) f14 (outPb (F := F) c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S32x128 32 [1] iota_S32x128_d1_w32) X2 X4 X5 X6 (arg13.view.writes (Elt F) g13 (rowsPb (F := F) c i arg2 harg2 arg3 harg3 arg4 harg4 arg5 harg5 arg6 harg6 arg7 harg7 arg8 harg8 arg9 harg9 arg10 harg10 arg11 harg11 arg12 harg12 arg13 harg13 arg14 harg14 X3 k0_t1_loop.trips)) f14 k0_t3_loop.trips).2.2.2.2.2)
    ∧ (k0_cond1 i = 1#1 → e12 = k0_pay8 e14)

set_option maxHeartbeats 1000000 in
/-- The body on whole staging memrefs: what it reads stays, what it writes is as `BodyRel` says. -/
theorem sound_kernelV (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole) (x2 : Vec F S64x128x768 .fp8e5m2) (x3 : Vec F S6x64x128 .f32) (x4 : Vec F S128x768 .f32) (x5 : Vec F S128x768 .f32) (x6 : Vec F S128x768 .f32) (x14 : Vec F S128x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ e7 e8 e9 e10 e11 e12 e14, ⌜BodyRel (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x14 e7 e8 e9 e10 e11 e12 e14⌝ ∗ owns (c : Thread nD τ) arg7 fullShare e7 ∗ owns (c : Thread nD τ) arg8 fullShare e8 ∗ owns (c : Thread nD τ) arg9 fullShare e9 ∗ owns (c : Thread nD τ) arg10 fullShare e10 ∗ owns (c : Thread nD τ) arg11 fullShare e11 ∗ owns (c : Thread nD τ) arg12 fullShare e12 ∗ owns (c : Thread nD τ) arg14 fullShare e14) ∗ (∃ d, owns (c : Thread nD τ) arg13 fullShare d)) -∗ K ⟨⟩))
      ⊢ wp frame (wpE (defs₀ (F := F)) Variants.none c none) Set.univ (cc0_zero_adamw i arg2 harg2 arg3 harg3 arg4 harg4 arg5 harg5 arg6 harg6 arg7 harg7 arg8 harg8 arg9 harg9 arg10 harg10 arg11 harg11 arg12 harg12 arg13 harg13 arg14 harg14) K := by
  simp only [cc0_zero_adamw_eq_skeleton]; unfold cc0_zero_adamw_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, Hk⟩
  subst hf2 hf3 hf4 hf5 hf6 hf14
  sl_exec
  all_goals
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitr [H13]; swap
    · iexists _, _; isplitr; swap; · iexact H13
      ipureintro; rfl
    iexists _, _, _, _, _, _, _
    isplitr; swap
    · isplitl [H7]
      · iexists _; isplitr; swap; · iexact H7
        ipureintro; rfl
      isplitl [H8]
      · iexists _; isplitr; swap; · iexact H8
        ipureintro; rfl
      isplitl [H9]
      · iexists _; isplitr; swap; · iexact H9
        ipureintro; rfl
      isplitl [H10]
      · iexists _; isplitr; swap; · iexact H10
        ipureintro; rfl
      isplitl [H11]
      · iexists _; isplitr; swap; · iexact H11
        ipureintro; rfl
      isplitl [H12]
      · iexists _; isplitr; swap; · iexact H12
        ipureintro; rfl
      · iexists _; isplitr; swap; · iexact H14
        ipureintro; rfl
    ipureintro
    refine ⟨f2, f3, f4, f5, f6, f7, f8, f9, f10, f11, f13, f14, rfl, rfl, rfl, rfl, rfl, rfl, rfl, rfl, rfl, rfl, rfl, rfl, fun hc => ?_⟩
    rw [dif_pos hc, View.read_writes_full]
    unfold sound_kernelV.sl.v30
    rw [View.readAt_full]

end Cert.Proof.KernelIdeal

end
-- ==== Proof.Rows.lean ====
/- What the first loop of `KernelIdeal` leaves in its rows: each the entry of the block of scales that stands at its place, split exactly. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.LoopV
public import Idealize.ShloMosaic.Lib.Pointwise
public import Idealize.ShloMosaic.Lib.VecWindow
public import Idealize.ShloMosaic.Lib.WritesUnit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic

/-- One exchange of a bit of the row with a bit of the lane: where they agree the entry stays, elsewhere it comes from the row and
    lane moved by the bit's weight. -/
def swp {α : Type} (m1 m2 : IVec S8x128 1) (a b c d : BitVec 32) (x : S8x128.Idx → α) : S8x128.Idx → α :=
  select m1 x (select m2 (dynamicRotate 1 b none (dynamicRotate 0 a none x rotates_S8x128_d0) rotates_S8x128_d1)
    (dynamicRotate 1 d none (dynamicRotate 0 c none x rotates_S8x128_d0) rotates_S8x128_d1))

theorem swp_comp {α : Type} (m1 m2 : IVec S8x128 1) (a b c d : BitVec 32) (x : S8x128.Idx → α) (q : S8x128.Idx → S8x128.Idx)
    (j : S8x128.Idx) : swp m1 m2 a b c d (fun k => x (q k)) j = x (swp m1 m2 a b c d q j) := by
  unfold swp select Scalar.select
  simp only []
  split_ifs <;> rfl

/-- Both exchanges, the fifth bit of the lane with the row's first and the sixth with its second. -/
def swps {α : Type} (x : S8x128.Idx → α) : S8x128.Idx → α :=
  swp k0_pay31 k0_pay32 6#32 64#32 2#32 64#32 (swp k0_pay23 k0_pay24 7#32 32#32 1#32 96#32 x)

/-- Where the two exchanges take the entry of a row and a lane from. -/
def srcOf (r : Fin 8) (l : Fin 128) : S8x128.Idx :=
  ix2 ⟨4 * (r.val / 4) + l.val / 32, by omega⟩ ⟨32 * (r.val % 4) + l.val % 32, by omega⟩

theorem swps_id : ∀ r : Fin 8, ∀ l : Fin 128,
    (swps (fun k => k) (ix2 r l) 0).val = 4 * (r.val / 4) + l.val / 32
      ∧ (swps (fun k => k) (ix2 r l) 1).val = 32 * (r.val % 4) + l.val % 32 := by
  decide +kernel

theorem swps_apply {α : Type} (x : S8x128.Idx → α) (r : Fin 8) (l : Fin 128) : swps x (ix2 r l) = x (srcOf r l) := by
  have e : swps x (ix2 r l) = x (swps (fun k => k) (ix2 r l)) := by
    unfold swps
    rw [show x = (fun k => x ((fun j : S8x128.Idx => j) k)) from rfl]
    rw [show swp k0_pay23 k0_pay24 7#32 32#32 1#32 96#32 (fun k => x ((fun j : S8x128.Idx => j) k))
      = (fun j => x (swp k0_pay23 k0_pay24 7#32 32#32 1#32 96#32 (fun j : S8x128.Idx => j) j)) from
        funext fun j => swp_comp _ _ _ _ _ _ x _ j]
    rw [swp_comp]
  rw [e]
  refine congrArg x ?_
  obtain ⟨h0, h1⟩ := swps_id r l
  funext a
  apply Fin.ext
  match a with
  | ⟨0, _⟩ => exact h0
  | ⟨1, _⟩ => exact h1

/-- A [8, 128] block stored as both halves of its words, read at an index. -/
theorem pair_apply (x : S8x128.Idx → EReal) (y : S1x1x8x2x128.Idx) :
    interleaveRows S1x1x8x2x128 (shapeCast S1x1x8x1x128 (shapeCast S1x1x8x128 x shapeCasts_S8x128_S1x1x8x128) shapeCasts_S1x1x8x128_S1x1x8x1x128)
      (shapeCast S1x1x8x1x128 (shapeCast S1x1x8x128 x shapeCasts_S8x128_S1x1x8x128) shapeCasts_S1x1x8x128_S1x1x8x1x128) bitcasts_S1x1x8x2x128_w16_S1x1x8x1x128_w32 y
      = x (ix2 (y 2) (y 4)) := by
  pointwise
  exact ite_self _

/-- The part of an entry that term `t` of its split holds. -/
def splitT (t : ℕ) (s : EReal) : EReal := if t = 0 then s else if t = 1 then s - s else (s - s) - (s - s)

/-- The entry of the block of scales whose split stands at a place of the rows. -/
def rowVal (x3 : S6x64x128.Idx → EReal) (y : S3x6x64x2x128.Idx) : EReal :=
  splitT (y 0).val (x3 (ix3 (y 1) ⟨4 * ((y 2).val / 4) + (y 4).val / 32, by have := (y 2).isLt; have := (y 4).isLt; simp at *; omega⟩
    ⟨32 * ((y 2).val % 4) + (y 4).val % 32, by have := (y 4).isLt; simp at *; omega⟩))

theorem src_cast (v : Vec Ideal S1x8x128 .f32) (r : Fin 8) (l : Fin 128) :
    k0_pay9 (F := Ideal) v (srcOf r l) = v (ix3 0 ⟨4 * (r.val / 4) + l.val / 32, by omega⟩ ⟨32 * (r.val % 4) + l.val % 32, by omega⟩) := by
  unfold k0_pay9 srcOf
  pointwise

section
variable (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole)

theorem w1_apply (b : Fin k0_t1_loop.trips) (X3 : BufTy.Contents (Elt Ideal) arg3.view.ty) (g : Fin k0_t2_loop.trips) (y : S1x1x8x2x128.Idx) :
    trip_k0_t2.sl.k0_w1 (F := Ideal) arg3 b X3 g y
      = splitT 0 (k0_pay9 (F := Ideal) (arg3.view.readAt (Elt Ideal) (Rect.unit (s := S6x64x128) (k0_off1 b g) S1x8x128.size (k0_off1_inb b g)).toLoadRect X3) (srcOf (y 2) (y 4))) := by
  refine (pair_apply (swps _) y).trans (swps_apply _ _ _)

theorem w2_apply (b : Fin k0_t1_loop.trips) (X3 : BufTy.Contents (Elt Ideal) arg3.view.ty) (g : Fin k0_t2_loop.trips) (y : S1x1x8x2x128.Idx) :
    trip_k0_t2.sl.k0_w2 (F := Ideal) arg3 b X3 g y
      = splitT 1 (k0_pay9 (F := Ideal) (arg3.view.readAt (Elt Ideal) (Rect.unit (s := S6x64x128) (k0_off1 b g) S1x8x128.size (k0_off1_inb b g)).toLoadRect X3) (srcOf (y 2) (y 4))) := by
  refine (pair_apply (swps _) y).trans (swps_apply _ _ _)

theorem w3_apply (b : Fin k0_t1_loop.trips) (X3 : BufTy.Contents (Elt Ideal) arg3.view.ty) (g : Fin k0_t2_loop.trips) (y : S1x1x8x2x128.Idx) :
    k0_pay1 (F := Ideal) (trip_k0_t2.sl.v163_lo arg3 b X3 g) (trip_k0_t2.sl.v163_hi arg3 b X3 g) trip_k0_t2.sl.v80
        (shrsi trip_k0_t2.sl.v81 trip_k0_t2.sl.v82) y
      = splitT 2 (k0_pay9 (F := Ideal) (arg3.view.readAt (Elt Ideal) (Rect.unit (s := S6x64x128) (k0_off1 b g) S1x8x128.size (k0_off1_inb b g)).toLoadRect X3) (srcOf (y 2) (y 4))) := by
  refine (pair_apply (swps _) y).trans (swps_apply _ _ _)

theorem row_src (b : Fin k0_t1_loop.trips) (X3 : BufTy.Contents (Elt Ideal) arg3.view.ty) (g : Fin k0_t2_loop.trips) (y : S3x6x64x2x128.Idx)
    (z : S1x1x8x2x128.Idx) (t : ℕ) (ht : (y 0).val = t) (h1 : (y 1).val = b.val) (h2 : 8 * g.val ≤ (y 2).val)
    (hz2 : (z 2).val = (y 2).val - 8 * g.val) (hz4 : (z 4).val = (y 4).val) :
    splitT t (k0_pay9 (F := Ideal) (arg3.view.readAt (Elt Ideal) (Rect.unit (s := S6x64x128) (k0_off1 b g) S1x8x128.size (k0_off1_inb b g)).toLoadRect X3) (srcOf (z 2) (z 4)))
      = rowVal (arg3.view.read (Elt Ideal) X3) y := by
  have q2 := (y 2).isLt
  have q4 := (y 4).isLt
  have p2 := (z 2).isLt
  simp at q2 q4 p2
  unfold rowVal
  rw [ht]
  refine congrArg (splitT t) ?_
  refine (src_cast _ (z 2) (z 4)).trans ?_
  rw [View.readAt_unit _ _ _ (k0_off1_eq b g) (by rw [← k0_off1_eq b g]; exact k0_off1_inb b g)]
  unfold VecWindow.window
  refine congrArg _ ?_
  funext a
  apply Fin.ext
  match a with
  | ⟨0, _⟩ => show b.val + 1 * 0 = (y 1).val; omega
  | ⟨1, _⟩ => show 8 * g.val + 1 * (4 * ((z 2).val / 4) + (z 4).val / 32) = 4 * ((y 2).val / 4) + (y 4).val / 32; omega
  | ⟨2, _⟩ => show 0 + 1 * (32 * ((z 2).val % 4) + (z 4).val % 32) = 32 * ((y 2).val % 4) + (y 4).val % 32; omega

theorem pb_t2 (b : Fin k0_t1_loop.trips) (w : BitVec 32) (X3 : BufTy.Contents (Elt Ideal) arg3.view.ty) (G : BufTy.Contents (Elt Ideal) arg13.view.ty) (y : S3x6x64x2x128.Idx) :
    ∀ k : ℕ, k ≤ k0_t2_loop.trips →
    arg13.view.read (Elt Ideal) (arg13.view.writes (Elt Ideal) G (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 b w X3 k)) y
      = if (y 1).val = b.val ∧ (y 2).val < 8 * k then rowVal (arg3.view.read (Elt Ideal) X3) y else arg13.view.read (Elt Ideal) G y := by
  intro k
  induction k with
  | zero => intro _; rw [if_neg (by omega)]; rfl
  | succ k ih =>
    intro hk
    have ih := ih (by omega)
    have hk8 : k < 8 := lt_of_lt_of_le hk k0_t2_abs.2.1
    rw [pb_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 b w X3 ⟨k, hk⟩, View.writes_append]
    unfold tripL_k0_t2 trip_k0_t2
    dsimp only
    rw [View.read_writes_cons_unit _ _ _ _ _ _ (k0_off4_eq b ⟨k, hk⟩), View.read_writes_cons_unit _ _ _ _ _ _ (k0_off3_eq b ⟨k, hk⟩),
      View.read_writes_cons_unit _ _ _ _ _ _ (k0_off2_eq b ⟨k, hk⟩), View.writes_nil, ih]
    have h0 := (y 0).isLt
    have h1 := (y 1).isLt
    have h2 := (y 2).isLt
    have h3 := (y 3).isLt
    have h4 := (y 4).isLt
    simp at h0 h1 h2 h3 h4
    simp only [Fin.forall_fin_succ]
    simp
    split_ifs with q1 q2 q3 q4 q5 q6 q7 <;> first | omega | rfl | skip
    · rw [w3_apply]
      exact row_src arg3 b X3 ⟨k, hk⟩ y _ 2 (by omega) (by omega) (by show 8 * k ≤ _; omega) rfl rfl
    · rw [w2_apply]
      exact row_src arg3 b X3 ⟨k, hk⟩ y _ 1 (by omega) (by omega) (by show 8 * k ≤ _; omega) rfl rfl
    · rw [w1_apply]
      exact row_src arg3 b X3 ⟨k, hk⟩ y _ 0 (by omega) (by omega) (by show 8 * k ≤ _; omega) rfl rfl

theorem rowsPb_read (X3 : BufTy.Contents (Elt Ideal) arg3.view.ty) (G : BufTy.Contents (Elt Ideal) arg13.view.ty) (y : S3x6x64x2x128.Idx) :
    ∀ k : ℕ, k ≤ k0_t1_loop.trips →
    arg13.view.read (Elt Ideal) (arg13.view.writes (Elt Ideal) G (rowsPb (F := Ideal) c i arg2 harg2 arg3 harg3 arg4 harg4 arg5 harg5 arg6 harg6 arg7 harg7 arg8 harg8 arg9 harg9 arg10 harg10 arg11 harg11 arg12 harg12 arg13 harg13 arg14 harg14 X3 k)) y
      = if (y 1).val < k then rowVal (arg3.view.read (Elt Ideal) X3) y else arg13.view.read (Elt Ideal) G y := by
  intro k
  induction k with
  | zero => intro _; rw [if_neg (by omega)]; rfl
  | succ k ih =>
    intro hk
    have h2 := (y 2).isLt
    simp at h2
    rw [rowsPb_succ (F := Ideal) c i arg2 harg2 arg3 harg3 arg4 harg4 arg5 harg5 arg6 harg6 arg7 harg7 arg8 harg8 arg9 harg9 arg10 harg10 arg11 harg11 arg12 harg12 arg13 harg13 arg14 harg14 X3 ⟨k, hk⟩, View.writes_append, pb_t2 c i arg2 harg2 arg3 harg3 arg4 harg4 arg5 harg5 arg6 harg6 arg7 harg7 arg8 harg8 arg9 harg9 arg10 harg10 arg11 harg11 arg12 harg12 arg13 harg13 arg14 harg14 _ _ _ _ _ _ le_rfl, ih (by omega)]
    have e : k0_t2_loop.trips = 8 := by decide
    rw [e]
    split_ifs <;> first | rfl | (exfalso; simp at *; omega)

/-- All the rows, once the loop is done. -/
theorem rows_read (X3 : BufTy.Contents (Elt Ideal) arg3.view.ty) (G : BufTy.Contents (Elt Ideal) arg13.view.ty) :
    arg13.view.read (Elt Ideal) (arg13.view.writes (Elt Ideal) G (rowsPb (F := Ideal) c i arg2 harg2 arg3 harg3 arg4 harg4 arg5 harg5 arg6 harg6 arg7 harg7 arg8 harg8 arg9 harg9 arg10 harg10 arg11 harg11 arg12 harg12 arg13 harg13 arg14 harg14 X3 k0_t1_loop.trips)) = rowVal (arg3.view.read (Elt Ideal) X3) := by
  funext y
  rw [rowsPb_read c i arg2 harg2 arg3 harg3 arg4 harg4 arg5 harg5 arg6 harg6 arg7 harg7 arg8 harg8 arg9 harg9 arg10 harg10 arg11 harg11 arg12 harg12 arg13 harg13 arg14 harg14 X3 G y _ le_rfl, if_pos]
  have h1 := (y 1).isLt
  have e : k0_t1_loop.trips = 6 := by decide
  rw [e]; exact h1

end

end Cert.Proof.KernelIdeal
-- ==== Proof.Tot.lean ====
/- The sum over the replicas, as the second loop of `KernelIdeal` takes it: a product with masked rows of scales. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Rows
public import Idealize.ShloMosaic.Lib.MatmulPlain
public import Idealize.ShloMosaic.Lib.Pipeline.Value

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic

/-- One of the two halves of a word of a loaded row, as a row of 128 lanes. -/
def rowLo (v : Vec Ideal S1x1x1x2x128 .bf16) : FVec Ideal S1x128 .bf16 :=
  shapeCast S1x128 (shapeCast S1x1x1x128 (rowsOfParity 0 S1x1x1x1x128 v bitcasts_S1x1x1x2x128_w16_S1x1x1x1x128_w32) shapeCasts_S1x1x1x1x128_S1x1x1x128) shapeCasts_S1x1x1x128_S1x128
/-- The other half. -/
def rowHi (v : Vec Ideal S1x1x1x2x128 .bf16) : FVec Ideal S1x128 .bf16 :=
  shapeCast S1x128 (shapeCast S1x1x1x128 (rowsOfParity 1 S1x1x1x1x128 v bitcasts_S1x1x1x2x128_w16_S1x1x1x1x128_w32) shapeCasts_S1x1x1x1x128_S1x1x1x128) shapeCasts_S1x1x1x128_S1x128
/-- Sixteen rows of 128 lanes side by side. -/
def wide (f : Fin 16 → FVec Ideal S1x128 .bf16) : FVec Ideal S1x2048 .bf16 :=
  concatenate S1x2048 1 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩, ⟨S1x128, f 8⟩, ⟨S1x128, f 9⟩, ⟨S1x128, f 10⟩, ⟨S1x128, f 11⟩, ⟨S1x128, f 12⟩, ⟨S1x128, f 13⟩, ⟨S1x128, f 14⟩, ⟨S1x128, f 15⟩] concatenates_S1x128_S1x128_S1x128_S1x128_S1x128_S1x128_S1x128_S1x128_S1x128_S1x128_S1x128_S1x128_S1x128_S1x128_S1x128_S1x128_S1x2048_d1
/-- A row eight times over. -/
def tall (x : FVec Ideal S1x2048 .bf16) : FVec Ideal S8x2048 .bf16 :=
  concatenate S8x2048 0 [⟨S1x2048, x⟩, ⟨S1x2048, x⟩, ⟨S1x2048, x⟩, ⟨S1x2048, x⟩, ⟨S1x2048, x⟩, ⟨S1x2048, x⟩, ⟨S1x2048, x⟩, ⟨S1x2048, x⟩] concatenates_S1x2048_S1x2048_S1x2048_S1x2048_S1x2048_S1x2048_S1x2048_S1x2048_S8x2048_d0
/-- Half of one left operand: the row's entries where the mask lets them through. -/
def halfM (m : IVec S16x2048 1) (raw : Fin 16 → Vec Ideal S1x1x1x2x128 .bf16) : FVec Ideal S16x2048 .bf16 :=
  select m (interleaveRows S16x2048 (tall (wide fun i => rowLo (raw i))) (tall (wide fun i => rowHi (raw i))) bitcasts_S16x2048_w16_S8x2048_w32)
    (broadcast S16x2048 (Scalar.ofBits .bf16 0x0000#16))
/-- One left operand. -/
def blkM (raw : Fin 16 → Vec Ideal S1x1x1x2x128 .bf16) : FVec Ideal S32x2048 .bf16 :=
  concatenate S32x2048 0 [⟨S16x2048, halfM k0_pay3 raw⟩, ⟨S16x2048, halfM k0_pay4 raw⟩] concatenates_S16x2048_S16x2048_S32x2048_d0
/-- The six left operands one below the other. -/
def lhsM (raw : Fin 3 → Fin 2 → Fin 16 → Vec Ideal S1x1x1x2x128 .bf16) : FVec Ideal S192x2048 .bf16 :=
  concatenate S192x2048 0 [⟨S32x2048, blkM (raw 0 0)⟩, ⟨S32x2048, blkM (raw 0 1)⟩, ⟨S32x2048, blkM (raw 1 0)⟩, ⟨S32x2048, blkM (raw 1 1)⟩, ⟨S32x2048, blkM (raw 2 0)⟩, ⟨S32x2048, blkM (raw 2 1)⟩] concatenates_S32x2048_S32x2048_S32x2048_S32x2048_S32x2048_S32x2048_S192x2048_d0
/-- Their product with the codes. -/
def prodM (raw : Fin 3 → Fin 2 → Fin 16 → Vec Ideal S1x1x1x2x128 .bf16) (C : FVec Ideal S2048x256 .fp8e5m2) : FVec Ideal S192x256 .f32 :=
  matmul dot_S192x2048_S2048x256_S192x256_1_0_0_1_n_n none (lhsM raw) C (constant S192x256 .f32 0x00000000#32)
/-- The sum of the three terms of the split. -/
def totM (raw : Fin 3 → Fin 2 → Fin 16 → Vec Ideal S1x1x1x2x128 .bf16) (C : FVec Ideal S2048x256 .fp8e5m2) : FVec Ideal S64x256 .f32 :=
  addf (addf (shapeCast S64x256 (extractStridedSlice S1x64x256 ![2, 0, 0] (shapeCast S3x64x256 (prodM raw C) shapeCasts_S192x256_S3x64x256) slices_S3x64x256_o2_0_0_S1x64x256) shapeCasts_S1x64x256_S64x256)
      (shapeCast S64x256 (extractStridedSlice S1x64x256 ![1, 0, 0] (shapeCast S3x64x256 (prodM raw C) shapeCasts_S192x256_S3x64x256) slices_S3x64x256_o1_0_0_S1x64x256) shapeCasts_S1x64x256_S64x256))
    (shapeCast S64x256 (extractStridedSlice S1x64x256 ![0, 0, 0] (shapeCast S3x64x256 (prodM raw C) shapeCasts_S192x256_S3x64x256) slices_S3x64x256_o0_0_0_S1x64x256) shapeCasts_S1x64x256_S64x256)

/-- The rows a trip loads: term `t`, the pair's block `bb`, the sixteen of every fourth row. -/
def rawOf (arg13 : Memref sig .tc .vmem S3x6x64x2x128 .bf16) (b : Fin k0_t3_loop.trips) (k : Fin k0_t4_loop.trips) (X : BufTy.Contents (Elt Ideal) arg13.view.ty) :
    Fin 3 → Fin 2 → Fin 16 → Vec Ideal S1x1x1x2x128 .bf16 :=
  fun t bb kk => match t with
    | 0 => arg13.view.readAt (Elt Ideal) (Rect.unit (s := S3x6x64x2x128) (k0_off7 b k (BitVec.ofNat 32 bb.val) (BitVec.ofNat 32 (4 * kk.val))) S1x1x1x2x128.size (k0_off7_inb b k bb kk)).toLoadRect X
    | 1 => arg13.view.readAt (Elt Ideal) (Rect.unit (s := S3x6x64x2x128) (k0_off8 b k (BitVec.ofNat 32 bb.val) (BitVec.ofNat 32 (4 * kk.val))) S1x1x1x2x128.size (k0_off8_inb b k bb kk)).toLoadRect X
    | 2 => arg13.view.readAt (Elt Ideal) (Rect.unit (s := S3x6x64x2x128) (k0_off9 b k (BitVec.ofNat 32 bb.val) (BitVec.ofNat 32 (4 * kk.val))) S1x1x1x2x128.size (k0_off9_inb b k bb kk)).toLoadRect X

theorem r_64_eq (arg2 : Memref sig .tc .vmem S64x128x768 .fp8e5m2) (arg13 : Memref sig .tc .vmem S3x6x64x2x128 .bf16) (b : Fin k0_t3_loop.trips) (k : Fin k0_t4_loop.trips)
    (X2 : BufTy.Contents (Elt Ideal) arg2.view.ty) (X : BufTy.Contents (Elt Ideal) arg13.view.ty) :
    trip_k0_t4.sl.r_64 (F := Ideal) arg2 arg13 b X2 X k = totM (rawOf arg13 b k X) (trip_k0_t4.sl.v46 arg2 b X2 k) := by
  rfl

theorem rowLo_apply (v : Vec Ideal S1x1x1x2x128 .bf16) (l : Fin 128) : rowLo v (ix2 0 l) = v (ix5 0 0 0 0 l) := by
  unfold rowLo; pointwise
theorem rowHi_apply (v : Vec Ideal S1x1x1x2x128 .bf16) (l : Fin 128) : rowHi v (ix2 0 l) = v (ix5 0 0 0 1 l) := by
  unfold rowHi; pointwise

theorem wide_apply (f : Fin 16 → FVec Ideal S1x128 .bf16) (L : Fin 2048) :
    wide f (ix2 0 L) = f ⟨L.val / 128, by omega⟩ (ix2 0 ⟨L.val % 128, by omega⟩) :=
  concatenate_ofFn_apply (t := S1x2048) (s₁ := S1x128) 1 f _ rfl 128 rfl (ix2 0 L) ⟨L.val / 128, by omega⟩ rfl (ix2 0 ⟨L.val % 128, by omega⟩) rfl
    (fun b hb => by
      match b with
      | ⟨0, _⟩ => rfl
      | ⟨1, _⟩ => exact absurd rfl hb)

theorem tall_apply (x : FVec Ideal S1x2048 .bf16) (r : Fin 8) (L : Fin 2048) : tall x (ix2 r L) = x (ix2 0 L) :=
  concatenate_ofFn_apply (t := S8x2048) (s₁ := S1x2048) 0 (fun _ : Fin 8 => x) _ rfl 1 rfl (ix2 r L) r (Nat.div_one _) (ix2 0 L) (by show 0 = _ % 1; omega)
    (fun b hb => by
      match b with
      | ⟨1, _⟩ => rfl
      | ⟨0, _⟩ => exact absurd rfl hb)

theorem pay2_val : ∀ L : Fin 2048, k0_pay2 (ix2 0 L) = BitVec.ofNat 32 (L.val % 32) := by decide +kernel
theorem pay3_val (r : Fin 16) (L : Fin 2048) : k0_pay3 (ix2 r L) = 1#1 ↔ L.val % 32 = r.val := by
  have h : k0_pay3 (ix2 r L) = IntOp.cmpi .eq (BitVec.ofNat 32 (L.val % 32)) (BitVec.ofNat 32 r.val + 0#32) := by
    rw [← pay2_val L]; unfold k0_pay3; dsimp only [cmpi]; rw [show k0_pay2 (ix2 r L) = k0_pay2 (ix2 0 L) from rfl]; refine congrArg _ ?_; pointwise; rfl
  rw [h]
  have h2 : ∀ a : Fin 32, ∀ r : Fin 16, IntOp.cmpi .eq (BitVec.ofNat 32 a.val) (BitVec.ofNat 32 r.val + 0#32) = 1#1 ↔ a.val = r.val := by decide +kernel
  exact h2 ⟨L.val % 32, by omega⟩ r
theorem pay4_val (r : Fin 16) (L : Fin 2048) : k0_pay4 (ix2 r L) = 1#1 ↔ L.val % 32 = r.val + 16 := by
  have h : k0_pay4 (ix2 r L) = IntOp.cmpi .eq (BitVec.ofNat 32 (L.val % 32)) (BitVec.ofNat 32 r.val + 16#32) := by
    rw [← pay2_val L]; unfold k0_pay4; dsimp only [cmpi]; rw [show k0_pay2 (ix2 r L) = k0_pay2 (ix2 0 L) from rfl]; refine congrArg _ ?_; pointwise; rfl
  rw [h]
  have h2 : ∀ a : Fin 32, ∀ r : Fin 16, IntOp.cmpi .eq (BitVec.ofNat 32 a.val) (BitVec.ofNat 32 r.val + 16#32) = 1#1 ↔ a.val = r.val + 16 := by decide +kernel
  exact h2 ⟨L.val % 32, by omega⟩ r

theorem halfM_apply (m : IVec S16x2048 1) (raw : Fin 16 → Vec Ideal S1x1x1x2x128 .bf16) (r : Fin 16) (L : Fin 2048) :
    halfM m raw (ix2 r L) = if m (ix2 r L) = 1#1 then raw ⟨L.val / 128, by omega⟩ (ix5 0 0 0 ⟨r.val % 2, by omega⟩ ⟨L.val % 128, by omega⟩) else 0 := by
  have z : (Scalar.ofBits .bf16 0x0000#16 : Ideal .bf16) = 0 := by
    show Ideal.ofBits .bf16 _ = 0
    simp [Ideal.ofBits, Ideal.ieee]
  unfold halfM select Scalar.select
  simp only [z]
  refine congrArg₂ (fun a b => if m (ix2 r L) = 1#1 then a else b) ?_ rfl
  have e : interleaveRows S16x2048 (tall (wide fun i => rowLo (raw i))) (tall (wide fun i => rowHi (raw i))) bitcasts_S16x2048_w16_S8x2048_w32 (ix2 r L)
      = if r.val % 2 = 0 then tall (wide fun i => rowLo (raw i)) (ix2 ⟨r.val / 2, by omega⟩ L) else tall (wide fun i => rowHi (raw i)) (ix2 ⟨r.val / 2, by omega⟩ L) := by
    pointwise
  rw [e, tall_apply, tall_apply, wide_apply, wide_apply, rowLo_apply, rowHi_apply]
  split_ifs with h
  · congr 2; exact Fin.ext h.symm
  · congr 2; apply Fin.ext; show 1 = r.val % 2; omega

theorem blkM_apply (raw : Fin 16 → Vec Ideal S1x1x1x2x128 .bf16) (r : Fin 32) (L : Fin 2048) :
    blkM raw (ix2 r L) = if L.val % 32 = r.val then raw ⟨L.val / 128, by omega⟩ (ix5 0 0 0 ⟨r.val % 2, by omega⟩ ⟨L.val % 128, by omega⟩) else 0 := by
  have e : blkM raw (ix2 r L) = if h : r.val < 16 then halfM k0_pay3 raw (ix2 ⟨r.val, h⟩ L) else halfM k0_pay4 raw (ix2 ⟨r.val - 16, by omega⟩ L) := by
    unfold blkM; pointwise
  rw [e]
  split_ifs with h h2 h2
  · rw [halfM_apply, if_pos ((pay3_val _ _).2 h2)]
  · rw [halfM_apply, if_neg (fun q => h2 ((pay3_val _ _).1 q))]
  · rw [halfM_apply, if_pos ((pay4_val _ _).2 (by show _ = r.val - 16 + 16; omega))]
    congr 2; apply Fin.ext; show (r.val - 16) % 2 = r.val % 2; omega
  · rw [halfM_apply, if_neg (fun q => h2 (by have := (pay4_val _ _).1 q; simp at this; omega))]

theorem lhsM_apply (raw : Fin 3 → Fin 2 → Fin 16 → Vec Ideal S1x1x1x2x128 .bf16) (t : Fin 3) (bb : Fin 2) (r : Fin 32) (L : Fin 2048) :
    lhsM raw (ix2 ⟨64 * t.val + 32 * bb.val + r.val, by omega⟩ L)
      = if L.val % 32 = r.val then raw t bb ⟨L.val / 128, by omega⟩ (ix5 0 0 0 ⟨r.val % 2, by omega⟩ ⟨L.val % 128, by omega⟩) else 0 := by
  rw [← blkM_apply]
  have key : ∀ n : Fin 6, lhsM raw (ix2 ⟨32 * n.val + r.val, by omega⟩ L) = blkM (raw ⟨n.val / 2, by omega⟩ ⟨n.val % 2, by omega⟩) (ix2 r L) := by
    intro n
    exact concatenate_ofFn_apply (t := S192x2048) (s₁ := S32x2048) 0 (fun n : Fin 6 => blkM (raw ⟨n.val / 2, by omega⟩ ⟨n.val % 2, by omega⟩)) _ rfl 32 rfl
      (ix2 ⟨32 * n.val + r.val, by omega⟩ L) n (by show (32 * n.val + r.val) / 32 = n.val; omega) (ix2 r L) (by show r.val = (32 * n.val + r.val) % 32; omega)
      (fun b hb => by
        match b with
        | ⟨1, _⟩ => rfl
        | ⟨0, _⟩ => exact absurd rfl hb)
  have k := key ⟨2 * t.val + bb.val, by omega⟩
  have e1 : (⟨32 * (2 * t.val + bb.val) + r.val, by omega⟩ : Fin 192) = ⟨64 * t.val + 32 * bb.val + r.val, by omega⟩ := Fin.ext (by dsimp only; omega)
  have e2 : (⟨(2 * t.val + bb.val) / 2, by omega⟩ : Fin 3) = t := Fin.ext (by dsimp only; omega)
  have e3 : (⟨(2 * t.val + bb.val) % 2, by omega⟩ : Fin 2) = bb := Fin.ext (by dsimp only; omega)
  simp only [e1, e2, e3] at k
  exact k

/-- The product's entry, as a sum over the contraction. -/
theorem prodM_apply (raw : Fin 3 → Fin 2 → Fin 16 → Vec Ideal S1x1x1x2x128 .bf16) (C : FVec Ideal S2048x256 .fp8e5m2) (R : Fin 192) (q : Fin 256) :
    prodM raw C (ix2 R q) = ∑ L : Fin 2048, lhsM raw (ix2 R L) * C (ix2 L q) := by
  unfold prodM
  pointwise

theorem totM_split (raw : Fin 3 → Fin 2 → Fin 16 → Vec Ideal S1x1x1x2x128 .bf16) (C : FVec Ideal S2048x256 .fp8e5m2) (R : Fin 64) (q : Fin 256) :
    totM raw C (ix2 R q) = (prodM raw C (ix2 ⟨128 + R.val, by omega⟩ q) + prodM raw C (ix2 ⟨64 + R.val, by omega⟩ q)) + prodM raw C (ix2 ⟨R.val, by omega⟩ q) := by
  unfold totM
  generalize prodM raw C = Q
  pointwise

theorem splitT_later (t : ℕ) (ht : t ≠ 0) (s : EReal) (h1 : s ≠ ⊤) (h2 : s ≠ ⊥) : splitT t s = 0 := by
  have e : s - s = 0 := EReal.sub_self h1 h2
  unfold splitT
  rw [if_neg ht, e]
  split_ifs <;> simp

/-- The three terms of the product come to the plain sum over the replicas, when the scales are finite. -/
theorem totM_value (raw : Fin 3 → Fin 2 → Fin 16 → Vec Ideal S1x1x1x2x128 .bf16) (C : FVec Ideal S2048x256 .fp8e5m2)
    (S : Fin 2 → Fin 64 → Fin 32 → EReal) (hfin : ∀ bb p r, S bb p r ≠ ⊤ ∧ S bb p r ≠ ⊥)
    (hraw : ∀ (t : Fin 3) (bb : Fin 2) (kk : Fin 16) (par : Fin 2) (l : Fin 128), raw t bb kk (ix5 0 0 0 par l)
      = splitT t.val (S bb ⟨4 * kk.val + l.val / 32, by omega⟩ ⟨l.val % 32, by omega⟩))
    (bb : Fin 2) (r : Fin 32) (q : Fin 256) :
    totM raw C (ix2 ⟨32 * bb.val + r.val, by omega⟩ q) = ∑ p : Fin 64, S bb p r * C (ix2 ⟨32 * p.val + r.val, by omega⟩ q) := by
  have term : ∀ (t : Fin 3) (L : Fin 2048), lhsM raw (ix2 ⟨64 * t.val + 32 * bb.val + r.val, by omega⟩ L)
      = if L.val % 32 = r.val then splitT t.val (S bb ⟨L.val / 32, by omega⟩ r) else 0 := by
    intro t L
    rw [lhsM_apply]
    split_ifs with h
    · rw [hraw]
      have e1 : (⟨4 * (L.val / 128) + L.val % 128 / 32, by omega⟩ : Fin 64) = ⟨L.val / 32, by omega⟩ := Fin.ext (by dsimp only; omega)
      have e2 : (⟨L.val % 128 % 32, by omega⟩ : Fin 32) = r := Fin.ext (by dsimp only; omega)
      simp only [e1, e2]
    · rfl
  have later : ∀ t : Fin 3, t.val ≠ 0 → prodM raw C (ix2 ⟨64 * t.val + 32 * bb.val + r.val, by omega⟩ q) = 0 := by
    intro t ht
    rw [prodM_apply]
    refine Finset.sum_eq_zero fun L _ => ?_
    rw [term, splitT_later _ ht _ (hfin _ _ _).1 (hfin _ _ _).2, ite_self, zero_mul]
  have first : prodM raw C (ix2 ⟨64 * (0 : Fin 3).val + 32 * bb.val + r.val, by have : (0 : Fin 3).val = 0 := rfl; omega⟩ q) = ∑ p : Fin 64, S bb p r * C (ix2 ⟨32 * p.val + r.val, by omega⟩ q) := by
    rw [prodM_apply]
    rw [← Equiv.sum_comp (finProdFinEquiv (m := 64) (n := 32)), Fintype.sum_prod_type]
    refine Finset.sum_congr rfl fun p _ => ?_
    rw [Finset.sum_eq_single r]
    · have e : finProdFinEquiv (m := 64) (n := 32) (p, r) = (⟨32 * p.val + r.val, by omega⟩ : Fin 2048) := Fin.ext (by simp [finProdFinEquiv]; omega)
      rw [e, term, if_pos (by dsimp only; omega)]
      have e1 : (⟨(32 * p.val + r.val) / 32, by omega⟩ : Fin 64) = p := Fin.ext (by dsimp only; omega)
      simp only [e1]
      rfl
    · intro s _ hs
      rw [term, if_neg, zero_mul]
      intro h
      apply hs
      apply Fin.ext
      rw [← h]
      simp [finProdFinEquiv]
      omega
    · intro h; exact absurd (Finset.mem_univ _) h
  rw [totM_split]
  have h2 := later 2 (by decide)
  have h1 := later 1 (by decide)
  have e2 : (⟨64 * (2 : Fin 3).val + 32 * bb.val + r.val, by have : (2 : Fin 3).val = 2 := rfl; omega⟩ : Fin 192) = ⟨128 + (32 * bb.val + r.val), by omega⟩ := Fin.ext (by show 64 * 2 + 32 * bb.val + r.val = 128 + (32 * bb.val + r.val); omega)
  have e1 : (⟨64 * (1 : Fin 3).val + 32 * bb.val + r.val, by have : (1 : Fin 3).val = 1 := rfl; omega⟩ : Fin 192) = ⟨64 + (32 * bb.val + r.val), by omega⟩ := Fin.ext (by show 64 * 1 + 32 * bb.val + r.val = 64 + (32 * bb.val + r.val); omega)
  have e0 : (⟨64 * (0 : Fin 3).val + 32 * bb.val + r.val, by have : (0 : Fin 3).val = 0 := rfl; omega⟩ : Fin 192) = ⟨32 * bb.val + r.val, by omega⟩ := Fin.ext (by show 64 * 0 + 32 * bb.val + r.val = (32 * bb.val + r.val); omega)
  rw [e2] at h2
  rw [e1] at h1
  rw [e0] at first
  rw [h2, h1, first, zero_add, zero_add]

/-- What the rows hold is what the trip's loads read. -/
theorem rawOf_apply (arg13 : Memref sig .tc .vmem S3x6x64x2x128 .bf16) (b : Fin k0_t3_loop.trips) (k : Fin k0_t4_loop.trips) (X : BufTy.Contents (Elt Ideal) arg13.view.ty)
    (x3 : S6x64x128.Idx → EReal) (hX : arg13.view.read (Elt Ideal) X = rowVal x3)
    (t : Fin 3) (bb : Fin 2) (kk : Fin 16) (par : Fin 2) (l : Fin 128) :
    rawOf arg13 b k X t bb kk (ix5 0 0 0 par l)
      = splitT t.val (x3 (ix3 ⟨2 * k.val + bb.val, by have := lt_of_lt_of_le k.isLt k0_t4_abs.2.1; omega⟩ ⟨4 * kk.val + l.val / 32, by omega⟩
          ⟨32 * b.val + l.val % 32, by have := lt_of_lt_of_le b.isLt k0_t3_abs.2.1; omega⟩)) := by
  have hb := lt_of_lt_of_le b.isLt k0_t3_abs.2.1
  have hk := lt_of_lt_of_le k.isLt k0_t4_abs.2.1
  have val : ∀ y : S3x6x64x2x128.Idx, (y 0).val = t.val → (y 1).val = 2 * k.val + bb.val → (y 2).val = 4 * kk.val + b.val → (y 4).val = l.val →
      rowVal x3 y = splitT t.val (x3 (ix3 ⟨2 * k.val + bb.val, by omega⟩ ⟨4 * kk.val + l.val / 32, by omega⟩ ⟨32 * b.val + l.val % 32, by omega⟩)) := by
    intro y h0 h1 h2 h4
    unfold rowVal
    rw [h0]
    refine congrArg (fun z => splitT t.val (x3 z)) ?_
    funext a
    apply Fin.ext
    match a with
    | ⟨0, _⟩ => show (y 1).val = _; exact h1
    | ⟨1, _⟩ => show 4 * ((y 2).val / 4) + (y 4).val / 32 = 4 * kk.val + l.val / 32; omega
    | ⟨2, _⟩ => show 32 * ((y 2).val % 4) + (y 4).val % 32 = 32 * b.val + l.val % 32; omega
  unfold rawOf
  match t, val with
  | 0, val =>
    dsimp only
    rw [View.readAt_unit _ _ _ (k0_off7_eq b k bb kk) (by rw [← k0_off7_eq b k bb kk]; exact k0_off7_inb b k bb kk), hX]
    exact val _ rfl (by show 2 * k.val + bb.val + 1 * 0 = _; omega) (by show 4 * kk.val + b.val + 1 * 0 = _; omega) (by show 0 + 1 * l.val = _; omega)
  | 1, val =>
    dsimp only
    rw [View.readAt_unit _ _ _ (k0_off8_eq b k bb kk) (by rw [← k0_off8_eq b k bb kk]; exact k0_off8_inb b k bb kk), hX]
    exact val _ rfl (by show 2 * k.val + bb.val + 1 * 0 = _; omega) (by show 4 * kk.val + b.val + 1 * 0 = _; omega) (by show 0 + 1 * l.val = _; omega)
  | 2, val =>
    dsimp only
    rw [View.readAt_unit _ _ _ (k0_off9_eq b k bb kk) (by rw [← k0_off9_eq b k bb kk]; exact k0_off9_inb b k bb kk), hX]
    exact val _ rfl (by show 2 * k.val + bb.val + 1 * 0 = _; omega) (by show 4 * kk.val + b.val + 1 * 0 = _; omega) (by show 0 + 1 * l.val = _; omega)

/-- What the codes' load reads, flattened. -/
theorem codes_apply (arg2 : Memref sig .tc .vmem S64x128x768 .fp8e5m2) (b : Fin k0_t3_loop.trips) (k : Fin k0_t4_loop.trips) (X2 : BufTy.Contents (Elt Ideal) arg2.view.ty)
    (p : Fin 64) (r : Fin 32) (q : Fin 256) :
    trip_k0_t4.sl.v46 (F := Ideal) arg2 b X2 k (ix2 ⟨32 * p.val + r.val, by omega⟩ q)
      = arg2.view.read (Elt Ideal) X2 (ix3 p ⟨32 * b.val + r.val, by have := lt_of_lt_of_le b.isLt k0_t3_abs.2.1; omega⟩
          ⟨256 * k.val + q.val, by have := lt_of_lt_of_le k.isLt k0_t4_abs.2.1; omega⟩) := by
  have hb := lt_of_lt_of_le b.isLt k0_t3_abs.2.1
  have hk := lt_of_lt_of_le k.isLt k0_t4_abs.2.1
  unfold trip_k0_t4.sl.v46
  rw [View.readAt_unit _ _ _ (k0_off6_eq b k) (by rw [← k0_off6_eq b k]; exact k0_off6_inb b k)]
  generalize hW : VecWindow.window _ _ _ _ = W
  have e : shapeCast S2048x256 W shapeCasts_S64x32x256_S2048x256 (ix2 ⟨32 * p.val + r.val, by omega⟩ q) = W (ix3 p r q) := by
    refine shapeCast_apply _ _ _ _ ?_
    rw [Shape.rowMajor_val_three, Shape.rowMajor_val_two]
    show (p.val * 32 + r.val) * 256 + q.val = (32 * p.val + r.val) * 256 + q.val
    omega
  refine e.trans ?_
  rw [← hW]
  unfold VecWindow.window
  refine congrArg _ ?_
  funext a
  apply Fin.ext
  match a with
  | ⟨0, _⟩ => show 0 + 1 * p.val = _; simp
  | ⟨1, _⟩ => show 32 * b.val + 1 * r.val = 32 * b.val + r.val; omega
  | ⟨2, _⟩ => show 256 * k.val + 1 * q.val = 256 * k.val + q.val; omega

end Cert.Proof.KernelIdeal
-- ==== Proof.Quant.lean ====
/- The quantiser of one value of the block maximum: the search of the scale bit by bit, and the count of the powers of two below
the value, give the same power of two. -/
module

public import proofs.«01_k».proof.Proof.Tot

@[expose] public section

noncomputable section

open Idealize Idealize.ShloMosaic Idealize.ShloMosaic.Ideal

namespace Cert.Proof.Quant

/-- The float whose exponent field is `n` and whose mantissa is empty is the power of two `n - 127`. -/
theorem ofBits_pow (n : ℕ) (h1 : 1 ≤ n) (h2 : n ≤ 254) :
    Ideal.ofBits .f32 (BitVec.ofNat 32 (n * 8388608)) = (((2 : ℝ) ^ ((n : ℤ) - 127) : ℝ) : EReal) := by
  have hex : ((BitVec.ofNat 32 (n * 8388608)).extractLsb' 23 8).toNat = n := by
    rw [BitVec.extractLsb'_toNat, BitVec.toNat_ofNat, Nat.shiftRight_eq_div_pow]; omega
  have hfr : ((BitVec.ofNat 32 (n * 8388608)).extractLsb' 0 23).toNat = 0 := by
    rw [BitVec.extractLsb'_toNat, BitVec.toNat_ofNat, Nat.shiftRight_eq_div_pow]; omega
  have hs : (BitVec.ofNat 32 (n * 8388608)).extractLsb' (8 + 23) 1 = 0#1 := by
    apply BitVec.eq_of_toNat_eq
    rw [BitVec.extractLsb'_toNat, BitVec.toNat_ofNat, Nat.shiftRight_eq_div_pow]
    simp; omega
  show Ideal.ieee 8 23 _ = _
  unfold Ideal.ieee
  simp only [hex, hfr, hs]
  rw [if_neg (by omega), if_neg (by omega)]
  congr 1
  have : (2 : ℝ) ^ ((n : ℤ) - 127) = 2 ^ 23 * 2 ^ ((n : ℤ) - 127 - 23) := by
    rw [← zpow_natCast (2 : ℝ) 23, ← zpow_add₀ (by norm_num)]; congr 1; push_cast; ring
  rw [this]
  norm_num

theorem ofBits_top : Ideal.ofBits .f32 (BitVec.ofNat 32 (255 * 8388608)) = ⊤ := by
  unfold Ideal.ofBits Ideal.ieee
  dsimp only
  rw [if_pos (by decide), if_pos (by decide), if_neg (by decide)]

theorem ofBits_cap : Ideal.ofBits .f32 0x7B800000#32 = (((2 : ℝ) ^ (120 : ℤ) : ℝ) : EReal) :=
  ofBits_pow 247 (by omega) (by omega)

/-- The exponents counted: `2 ^ (k - 126)` is at most the value. -/
def below (y : EReal) (k : ℕ) : Prop := (((2 : ℝ) ^ ((k : ℤ) - 126) : ℝ) : EReal) ≤ y

theorem below_mono {y : EReal} {j k : ℕ} (h : j ≤ k) (hk : below y k) : below y j :=
  le_trans (EReal.coe_le_coe_iff.2 (zpow_le_zpow_right₀ (by norm_num) (by omega))) hk

open Classical in
/-- How many of the 247 powers of two are at most the value. -/
def cnt (y : EReal) : ℕ := (Finset.univ.filter fun k : Fin 247 => below y k).card

theorem cnt_le (y : EReal) : cnt y ≤ 247 := by
  unfold cnt; exact (Finset.card_le_univ _).trans (by simp)

/-- Being among the counted powers is being below the count. -/
theorem below_iff (y : EReal) (k : ℕ) (hk : k < 247) : below y k ↔ k < cnt y := by
  classical
  have hcard (n : ℕ) (hn : n ≤ 247) : (Finset.univ.filter fun j : Fin 247 => (j : ℕ) < n).card = n := by
    rw [show (Finset.univ.filter fun j : Fin 247 => (j : ℕ) < n) = (Finset.univ : Finset (Fin n)).map (Fin.castLEEmb hn) from by
      ext j; simp only [Finset.mem_filter, Finset.mem_univ, true_and, Finset.mem_map, Fin.castLEEmb_apply]
      exact ⟨fun h => ⟨⟨j, h⟩, rfl⟩, fun ⟨a, ha⟩ => by rw [← ha]; exact a.2⟩]
    simp
  constructor
  · intro h
    have : (Finset.univ.filter fun j : Fin 247 => (j : ℕ) < k + 1) ⊆ (Finset.univ.filter fun j : Fin 247 => below y j) := by
      intro j hj; simp only [Finset.mem_filter, Finset.mem_univ, true_and] at hj ⊢
      exact below_mono (by omega) h
    have := Finset.card_le_card this
    rw [hcard _ (by omega)] at this
    have h2 : k + 1 ≤ cnt y := by unfold cnt; convert this
    omega
  · intro h
    by_contra hn
    have : (Finset.univ.filter fun j : Fin 247 => below y j) ⊆ (Finset.univ.filter fun j : Fin 247 => (j : ℕ) < k) := by
      intro j hj; simp only [Finset.mem_filter, Finset.mem_univ, true_and] at hj ⊢
      by_contra hjk
      exact hn (below_mono (by omega) hj)
    have := Finset.card_le_card this
    rw [hcard _ (by omega)] at this
    unfold cnt at h
    have h' : k < (Finset.univ.filter fun j : Fin 247 => below y j).card := by convert h
    omega

/-- Taking a bit into the candidate when the candidate's float is at most the value. -/
def step (y : EReal) (cur inc : BitVec 32) : BitVec 32 :=
  Scalar.select (Ideal.cmp .oge y (Ideal.ofBits .f32 (cur + inc))) (cur + inc) cur

/-- The eight bits of the exponent, from the highest to the lowest. -/
def bits (y : EReal) : BitVec 32 :=
  step y (step y (step y (step y (step y (step y (step y (step y 0#32 1073741824#32) 536870912#32) 268435456#32)
    134217728#32) 67108864#32) 33554432#32) 16777216#32) 8388608#32

def stepN (c a b : ℕ) : ℕ := if a + b ≤ c then a + b else a

theorem cand_iff (y : EReal) (n : ℕ) (h1 : 1 ≤ n) (h2 : n ≤ 255) :
    Ideal.ofBits .f32 (BitVec.ofNat 32 (n * 8388608)) ≤ min y (Ideal.ofBits .f32 0x7B800000#32) ↔ n ≤ cnt y := by
  have hc := cnt_le y
  rw [le_min_iff]
  by_cases h3 : n = 255
  · subst h3
    rw [ofBits_top, ofBits_cap]
    constructor
    · rintro ⟨_, h⟩; exact absurd (top_le_iff.1 h) (EReal.coe_ne_top _)
    · intro h; omega
  rw [ofBits_pow n h1 (by omega), ofBits_cap]
  by_cases h4 : n ≤ 247
  · have hb := below_iff y (n - 1) (by omega)
    unfold below at hb
    rw [show (((n - 1 : ℕ) : ℤ) - 126) = (n : ℤ) - 127 by omega] at hb
    rw [hb]
    constructor
    · rintro ⟨h, _⟩; omega
    · intro h
      exact ⟨by omega, EReal.coe_le_coe_iff.2 (zpow_le_zpow_right₀ (by norm_num) (by omega))⟩
  · constructor
    · rintro ⟨_, h⟩
      have := (zpow_le_zpow_iff_right₀ (a := (2 : ℝ)) (by norm_num)).1 (EReal.coe_le_coe_iff.1 h)
      omega
    · intro h; omega

theorem step_eq (y : EReal) (a b : ℕ) (h1 : 1 ≤ a + b) (h2 : a + b ≤ 255) :
    step (min y (Ideal.ofBits .f32 0x7B800000#32)) (BitVec.ofNat 32 (a * 8388608)) (BitVec.ofNat 32 (b * 8388608))
      = BitVec.ofNat 32 (stepN (cnt y) a b * 8388608) := by
  have hadd : BitVec.ofNat 32 (a * 8388608) + BitVec.ofNat 32 (b * 8388608) = BitVec.ofNat 32 ((a + b) * 8388608) := by
    rw [Nat.add_mul, BitVec.ofNat_add]
  have hc := cand_iff y (a + b) h1 h2
  unfold step stepN
  rw [hadd]
  by_cases h : a + b ≤ cnt y
  · rw [if_pos h]
    have := hc.2 h
    unfold Scalar.select
    simp [Ideal.cmp, this]
  · rw [if_neg h]
    have := fun h' => h (hc.1 h')
    unfold Scalar.select
    rw [if_neg]
    unfold Ideal.cmp
    simp only [decide_eq_false this]
    decide

theorem stepN_le (c a b : ℕ) : stepN c a b ≤ a + b := by unfold stepN; split <;> omega

theorem search_nat : ∀ c : Fin 248, stepN c (stepN c (stepN c (stepN c (stepN c (stepN c (stepN c (stepN c 0 128) 64) 32) 16) 8) 4) 2) 1 = c := by
  decide +kernel

/-- The search finds the count of the powers of two below the value. -/
theorem bits_eq (y : EReal) :
    bits (min y (Ideal.ofBits .f32 0x7B800000#32)) = BitVec.ofNat 32 (cnt y * 8388608) := by
  have hs := search_nat ⟨cnt y, by have := cnt_le y; omega⟩
  simp only at hs
  unfold bits
  have l1 := stepN_le (cnt y) 0 128
  have l2 := stepN_le (cnt y) (stepN (cnt y) 0 128) 64
  have l3 := stepN_le (cnt y) (stepN (cnt y) (stepN (cnt y) 0 128) 64) 32
  have l4 := stepN_le (cnt y) (stepN (cnt y) (stepN (cnt y) (stepN (cnt y) 0 128) 64) 32) 16
  have l5 := stepN_le (cnt y) (stepN (cnt y) (stepN (cnt y) (stepN (cnt y) (stepN (cnt y) 0 128) 64) 32) 16) 8
  have l6 := stepN_le (cnt y) (stepN (cnt y) (stepN (cnt y) (stepN (cnt y) (stepN (cnt y) (stepN (cnt y) 0 128) 64) 32) 16) 8) 4
  have l7 := stepN_le (cnt y) (stepN (cnt y) (stepN (cnt y) (stepN (cnt y) (stepN (cnt y) (stepN (cnt y) (stepN (cnt y) 0 128) 64) 32) 16) 8) 4) 2
  rw [show (0#32 : BitVec 32) = BitVec.ofNat 32 (0 * 8388608) from rfl,
    show (1073741824#32 : BitVec 32) = BitVec.ofNat 32 (128 * 8388608) from rfl,
    show (536870912#32 : BitVec 32) = BitVec.ofNat 32 (64 * 8388608) from rfl,
    show (268435456#32 : BitVec 32) = BitVec.ofNat 32 (32 * 8388608) from rfl,
    show (134217728#32 : BitVec 32) = BitVec.ofNat 32 (16 * 8388608) from rfl,
    show (67108864#32 : BitVec 32) = BitVec.ofNat 32 (8 * 8388608) from rfl,
    show (33554432#32 : BitVec 32) = BitVec.ofNat 32 (4 * 8388608) from rfl,
    show (16777216#32 : BitVec 32) = BitVec.ofNat 32 (2 * 8388608) from rfl,
    show (8388608#32 : BitVec 32) = BitVec.ofNat 32 (1 * 8388608) from rfl]
  rw [step_eq y 0 128 (by omega) (by omega), step_eq y _ 64 (by omega) (by omega), step_eq y _ 32 (by omega) (by omega),
    step_eq y _ 16 (by omega) (by omega), step_eq y _ 8 (by omega) (by omega), step_eq y _ 4 (by omega) (by omega),
    step_eq y _ 2 (by omega) (by omega), step_eq y _ 1 (by omega) (by omega), hs]

/-- The scale of a block, from the value of its maximum. -/
def scale (y : EReal) : EReal := if cnt y = 0 then 1 else (((2 : ℝ) ^ ((cnt y : ℤ) - 126) : ℝ) : EReal)

/-- Its inverse. -/
def inv (y : EReal) : EReal := if cnt y = 0 then 1 else (((2 : ℝ) ^ (126 - (cnt y : ℤ)) : ℝ) : EReal)

theorem bits_zero (y : EReal) : (BitVec.ofNat 32 (cnt y * 8388608) = 0#32) ↔ cnt y = 0 := by
  have := cnt_le y
  constructor
  · intro h
    have := congrArg BitVec.toNat h
    rw [BitVec.toNat_ofNat, BitVec.toNat_ofNat] at this
    omega
  · intro h; rw [h]

theorem ne_bit (y : EReal) : Scalar.cmpi .ne (BitVec.ofNat 32 (cnt y * 8388608)) 0#32 = if cnt y = 0 then 0#1 else 1#1 := by
  have := bits_zero y
  by_cases h : cnt y = 0
  · rw [if_pos h, h]; rfl
  · rw [if_neg h]
    have h' := fun e => h (this.1 e)
    show BitVec.ofBool (BitVec.ofNat 32 (cnt y * 8388608) != 0#32) = 1#1
    rw [bne_iff_ne.2 h']; rfl

/-- The kernel's scale is the specified one. -/
theorem kscale_eq (y : EReal) :
    Scalar.select (Scalar.cmpi .ne (bits (min y (Ideal.ofBits .f32 0x7B800000#32))) 0#32)
      (Ideal.ofBits .f32 (bits (min y (Ideal.ofBits .f32 0x7B800000#32)) + 8388608#32)) (Ideal.ofBits .f32 0x3F800000#32) = scale y := by
  have hc := cnt_le y
  rw [bits_eq, ne_bit]
  unfold scale Scalar.select
  by_cases h : cnt y = 0
  · rw [if_pos h, if_pos h, if_neg (by decide)]
    exact (ofBits_pow 127 (by omega) (by omega)).trans (by norm_num)
  · rw [if_neg h, if_neg h, if_pos (show (1#1 : BitVec 1) = 1 from rfl),
      show BitVec.ofNat 32 (cnt y * 8388608) + 8388608#32 = BitVec.ofNat 32 ((cnt y + 1) * 8388608) by
        rw [Nat.add_mul, BitVec.ofNat_add],
      ofBits_pow _ (by omega) (by omega)]
    congr 2; push_cast; ring

/-- The kernel's inverse scale is the specified one. -/
theorem kinv_eq (y : EReal) :
    Scalar.select (Scalar.cmpi .ne (bits (min y (Ideal.ofBits .f32 0x7B800000#32))) 0#32)
      (Ideal.ofBits .f32 (2122317824#32 - bits (min y (Ideal.ofBits .f32 0x7B800000#32)))) (Ideal.ofBits .f32 0x3F800000#32) = inv y := by
  have hc := cnt_le y
  rw [bits_eq, ne_bit]
  unfold inv Scalar.select
  by_cases h : cnt y = 0
  · rw [if_pos h, if_pos h, if_neg (by decide)]
    exact (ofBits_pow 127 (by omega) (by omega)).trans (by norm_num)
  · rw [if_neg h, if_neg h, if_pos (show (1#1 : BitVec 1) = 1 from rfl),
      show 2122317824#32 - BitVec.ofNat 32 (cnt y * 8388608) = BitVec.ofNat 32 ((253 - cnt y) * 8388608) by
        apply BitVec.eq_of_toNat_eq
        rw [BitVec.toNat_sub, BitVec.toNat_ofNat, BitVec.toNat_ofNat, BitVec.toNat_ofNat]
        omega,
      ofBits_pow _ (by omega) (by omega)]
    congr 2; omega

open Classical in
/-- Counting by a sum of ones. -/
theorem sum_below (y : EReal) : (∑ k : Fin 247, if below y k then (1 : EReal) else 0) = ((cnt y : ℝ) : EReal) := by
  have h : (∑ k : Fin 247, if below y k then (1 : ℝ) else 0) = (cnt y : ℝ) := by
    rw [Finset.sum_ite]; simp [cnt]
  rw [← h]
  have : ∀ s : Finset (Fin 247), (∑ k ∈ s, if below y k then (1 : EReal) else 0) = ((∑ k ∈ s, if below y k then (1 : ℝ) else 0 : ℝ) : EReal) := by
    intro s
    induction s using Finset.induction_on with
    | empty => simp
    | insert a s ha ih =>
      rw [Finset.sum_insert ha, Finset.sum_insert ha, ih, EReal.coe_add]
      split <;> simp
  exact this _

end Cert.Proof.Quant
-- ==== Proof.Tile.lean ====
/- What one trip of the second loop of `KernelIdeal` computes, as functions of a 32 x 128 block. -/
module

public import proofs.«01_k».proof.Proof.Quant
public import Idealize.ShloMosaic.Lib.CellWrites
public import Idealize.ShloMosaic.Lib.Pointwise

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic

/-! ### One cell -/

/-- The gradient of a cell: the codes of the replicas with their scales, averaged. -/
def grad (S C : Fin 64 → EReal) : EReal := (∑ p, S p * C p) * Ideal.ofBits .f32 0x3C800000#32
/-- The first moment. -/
def mom (g m : EReal) : EReal := Ideal.ofBits .f32 0x3F666666#32 * m + Ideal.ofBits .f32 0x3DCCCCCD#32 * g
/-- The second moment. -/
def vel (g v : EReal) : EReal := Ideal.ofBits .f32 0x3F733333#32 * v + Ideal.ofBits .f32 0x3D4CCCCD#32 * (g * g)
/-- The update. -/
def upd (g w m v : EReal) : EReal :=
  Ideal.ofBits .f32 0x3C23D70A#32 * (Ideal.div (Ideal.div (mom g m) (Ideal.ofBits .f32 0x3F60E05A#32))
    (Ideal.sqrt (Ideal.div (vel g v) (Ideal.ofBits .f32 0x3F243A44#32)) + Ideal.ofBits .f32 0x322BCC77#32)
      + Ideal.ofBits .f32 0x3DCCCCCD#32 * w)
/-- The new master value. -/
def new (g w m v : EReal) : EReal := w - upd g w m v
/-- The value the scale of a block of 128 is taken from. -/
def top (f : Fin 128 → EReal) : EReal :=
  (Finset.univ : Finset (Fin 128)).fold max (Ideal.ofBits .f32 0xFF800000#32) (fun l => FloatOps.absf (F := Ideal) (φ := .f32) (f l)) * Ideal.ofBits .f32 0x3B124925#32
/-- The code of a value in a block. -/
def code (x y : EReal) : EReal := min (Ideal.ofBits .f32 0x43E00000#32) (max (Ideal.ofBits .f32 0xC3E00000#32) (x * Quant.inv y))

/-! ### One block of 32 rows -/

def tM (G M : FVec Ideal S32x128 .f32) : FVec Ideal S32x128 .f32 := k0_pay394 G (k0_pay393 M) (Scalar.ofBits .f32 0x3DCCCCCD#32)
def tV (G V : FVec Ideal S32x128 .f32) : FVec Ideal S32x128 .f32 := k0_pay395 G V
def tU (G W M V : FVec Ideal S32x128 .f32) : FVec Ideal S32x128 .f32 := k0_pay396 G W (k0_pay393 M) (Scalar.ofBits .f32 0x3DCCCCCD#32) V
def tN (G W M V : FVec Ideal S32x128 .f32) : FVec Ideal S32x128 .f32 := k0_pay397 G W (k0_pay393 M) (Scalar.ofBits .f32 0x3DCCCCCD#32) V
def tY (G W M V : FVec Ideal S32x128 .f32) : FVec Ideal S32x1 .f32 := k0_pay398 G W (k0_pay393 M) (Scalar.ofBits .f32 0x3DCCCCCD#32) V
def tS (G W M V : FVec Ideal S32x128 .f32) : FVec Ideal S32x1 .f32 := k0_pay401 (tY G W M V) 0#32
def tC (G W M V : FVec Ideal S32x128 .f32) : FVec Ideal S32x128 .fp8e4m3 :=
  k0_pay402 (tN G W M V) (k0_pay399 (tY G W M V) 0#32) (k0_pay400 (tY G W M V) 0#32) 2122317824#32

theorem tM_apply (G M : FVec Ideal S32x128 .f32) (y : S32x128.Idx) : tM G M y = mom (G y) (M y) := rfl
theorem tV_apply (G V : FVec Ideal S32x128 .f32) (y : S32x128.Idx) : tV G V y = vel (G y) (V y) := rfl
theorem tU_apply (G W M V : FVec Ideal S32x128 .f32) (y : S32x128.Idx) : tU G W M V y = upd (G y) (W y) (M y) (V y) := rfl
theorem tN_apply (G W M V : FVec Ideal S32x128 .f32) (y : S32x128.Idx) : tN G W M V y = new (G y) (W y) (M y) (V y) := rfl

/-- The row's value the scale is taken from. -/
def rowTop (G W M V : FVec Ideal S32x128 .f32) (r : Fin 32) : EReal :=
  top fun l => new (G (ix2 r l)) (W (ix2 r l)) (M (ix2 r l)) (V (ix2 r l))

theorem tY_apply (G W M V : FVec Ideal S32x128 .f32) (r : Fin 32) :
    tY G W M V (ix2 r 0) = min (rowTop G W M V r) (Ideal.ofBits .f32 0x7B800000#32) := by
  unfold tY k0_pay398
  dsimp only
  pointwise
  rfl

theorem step_apply (Y : FVec Ideal S32x1 .f32) (cur : IVec S32x1 32) (inc : BitVec 32) (y : S32x1.Idx) :
    select (cmpf .oge Y (bitcastToFloat .f32 (addi cur (broadcast S32x1 inc)))) (addi cur (broadcast S32x1 inc)) cur y
      = Quant.step (Y y) (cur y) inc := rfl

theorem bits_apply (Y : FVec Ideal S32x1 .f32) (y : S32x1.Idx) : k0_pay399 Y 0#32 y = Quant.bits (Y y) := by
  unfold k0_pay399
  unfold Quant.bits
  iterate 8 refine (step_apply Y _ _ y).trans (congrArg (fun c => Quant.step (Y y) c _) ?_)
  rfl

theorem tS_apply (G W M V : FVec Ideal S32x128 .f32) (r : Fin 32) : tS G W M V (ix2 r 0) = Quant.scale (rowTop G W M V r) := by
  show Scalar.select (Scalar.cmpi .ne (k0_pay399 (tY G W M V) 0#32 (ix2 r 0)) 0#32)
    (Ideal.ofBits .f32 (k0_pay399 (tY G W M V) 0#32 (ix2 r 0) + 8388608#32)) (Ideal.ofBits .f32 0x3F800000#32) = _
  rw [bits_apply, tY_apply, Quant.kscale_eq]

theorem tC_apply (G W M V : FVec Ideal S32x128 .f32) (r : Fin 32) (q : Fin 128) :
    tC G W M V (ix2 r q) = code (new (G (ix2 r q)) (W (ix2 r q)) (M (ix2 r q)) (V (ix2 r q))) (rowTop G W M V r) := by
  have hinv : Scalar.select (Scalar.cmpi .ne (k0_pay399 (tY G W M V) 0#32 (ix2 r 0)) 0#32)
      (Ideal.ofBits .f32 (2122317824#32 - k0_pay399 (tY G W M V) 0#32 (ix2 r 0))) (Ideal.ofBits .f32 0x3F800000#32) = Quant.inv (rowTop G W M V r) := by
    rw [bits_apply, tY_apply, Quant.kinv_eq]
  unfold code
  rw [← hinv, ← tN_apply]
  unfold tC k0_pay400
  generalize k0_pay399 (tY G W M V) 0#32 = Bt
  generalize tN G W M V = N
  unfold k0_pay402
  pointwise
  rfl

/-! The second block of a trip: its operations are the first one's, cut at other places. -/

section
variable (T : FVec Ideal S64x256 .f32) (W M V : FVec Ideal S32x128 .f32)

theorem uM_eq : k0_pay405 T M = tM (k0_pay404 T) M := rfl
theorem uV_eq : k0_pay408 (k0_pay406 V) (k0_pay407 T) = tV (k0_pay404 T) V := rfl
theorem uU_eq : k0_pay409 W (k0_pay405 T M) (k0_pay406 V) (k0_pay407 T) = tU (k0_pay404 T) W M V := rfl
theorem uN_eq : k0_pay410 W (k0_pay405 T M) (k0_pay406 V) (k0_pay407 T) = tN (k0_pay404 T) W M V := rfl
theorem uY_eq : k0_pay411 W (k0_pay405 T M) (k0_pay406 V) (k0_pay407 T) = tY (k0_pay404 T) W M V := rfl

theorem bits1_apply (y : S32x1.Idx) :
    k0_pay413 (k0_pay411 W (k0_pay405 T M) (k0_pay406 V) (k0_pay407 T)) (k0_pay412 W (k0_pay405 T M) (k0_pay406 V) (k0_pay407 T)) y
      = Quant.bits (k0_pay411 W (k0_pay405 T M) (k0_pay406 V) (k0_pay407 T) y) := by
  unfold k0_pay412
  generalize k0_pay411 W (k0_pay405 T M) (k0_pay406 V) (k0_pay407 T) = Y
  unfold k0_pay413 Quant.bits
  iterate 8 refine (step_apply Y _ _ y).trans (congrArg (fun c => Quant.step (Y y) c _) ?_)
  rfl

theorem uS_apply (r : Fin 32) :
    k0_pay415 (k0_pay411 W (k0_pay405 T M) (k0_pay406 V) (k0_pay407 T)) (k0_pay412 W (k0_pay405 T M) (k0_pay406 V) (k0_pay407 T)) (ix2 r 0)
      = Quant.scale (rowTop (k0_pay404 T) W M V r) := by
  have h := bits1_apply T W M V (ix2 r 0)
  rw [uY_eq, tY_apply] at h
  rw [uY_eq]
  generalize k0_pay412 W (k0_pay405 T M) (k0_pay406 V) (k0_pay407 T) = C at h
  unfold k0_pay415 k0_pay414
  generalize k0_pay413 (tY (k0_pay404 T) W M V) C = Bt at h
  show Scalar.select (Scalar.cmpi .ne (Bt (ix2 r 0)) 0#32) (Ideal.ofBits .f32 (Bt (ix2 r 0) + 8388608#32)) (Ideal.ofBits .f32 0x3F800000#32) = _
  rw [h, Quant.kscale_eq]

theorem uC_apply (r : Fin 32) (q : Fin 128) :
    k0_pay5 (k0_pay416 (k0_pay410 W (k0_pay405 T M) (k0_pay406 V) (k0_pay407 T)) (k0_pay411 W (k0_pay405 T M) (k0_pay406 V) (k0_pay407 T)) (k0_pay412 W (k0_pay405 T M) (k0_pay406 V) (k0_pay407 T))) k0_pay417 (ix2 r q)
      = code (new (k0_pay404 T (ix2 r q)) (W (ix2 r q)) (M (ix2 r q)) (V (ix2 r q))) (rowTop (k0_pay404 T) W M V r) := by
  have h := bits1_apply T W M V (ix2 r 0)
  rw [uY_eq, tY_apply] at h
  rw [uY_eq, uN_eq]
  generalize k0_pay412 W (k0_pay405 T M) (k0_pay406 V) (k0_pay407 T) = C at h
  have hinv : Scalar.select (Scalar.cmpi .ne (k0_pay413 (tY (k0_pay404 T) W M V) C (ix2 r 0)) 0#32)
      (Ideal.ofBits .f32 (2122317824#32 - k0_pay413 (tY (k0_pay404 T) W M V) C (ix2 r 0))) (Ideal.ofBits .f32 0x3F800000#32) = Quant.inv (rowTop (k0_pay404 T) W M V r) := by
    rw [h, Quant.kinv_eq]
  unfold code
  rw [← hinv, ← tN_apply]
  unfold k0_pay416 k0_pay414 k0_pay5 k0_pay417
  generalize k0_pay413 (tY (k0_pay404 T) W M V) C = Bt
  generalize tN (k0_pay404 T) W M V = N
  pointwise
  rfl

end

theorem ix2e {m n : ℕ} {a a' : Fin m} {b b' : Fin n} (h : a.val = a'.val) (h' : b.val = b'.val) : ix2 a b = ix2 a' b' := by
  rw [Fin.ext h, Fin.ext h']
theorem ix3e {l m n : ℕ} {c c' : Fin l} {a a' : Fin m} {b b' : Fin n} (h0 : c.val = c'.val) (h : a.val = a'.val) (h' : b.val = b'.val) :
    ix3 c a b = ix3 c' a' b' := by
  rw [Fin.ext h0, Fin.ext h, Fin.ext h']

/-! ### One trip -/

/-- The window of a 128 x 768 tile a trip works on: block `bb` of the pair. -/
def win (X : S128x768.Idx → EReal) (b k bb : ℕ) (hb : b < 4) (hk : k < 3) (hbb : bb < 2) : FVec Ideal S32x128 .f32 :=
  fun z => X (ix2 ⟨32 * b + (z 0).val, by have : (z 0).val < 32 := (z 0).isLt; omega⟩ ⟨256 * k + 128 * bb + (z 1).val, by have : (z 1).val < 128 := (z 1).isLt; omega⟩)

theorem t3_lt (b : Fin k0_t3_loop.trips) : b.val < 4 := lt_of_lt_of_le b.isLt k0_t3_abs.2.1
theorem t4_lt (k : Fin k0_t4_loop.trips) : k.val < 3 := lt_of_lt_of_le k.isLt k0_t4_abs.2.1

theorem win_read (a : Memref sig .tc .vmem S128x768 .f32) (b : Fin k0_t3_loop.trips) (k : Fin k0_t4_loop.trips) (bb : Fin 2) (X : BufTy.Contents (Elt Ideal) a.view.ty) :
    a.view.readAt (Elt Ideal) (Rect.unit (s := S128x768) (k0_off10 b k (BitVec.ofNat 32 bb.val)) S32x128.size (k0_off10_inb b k bb)).toLoadRect X
      = win (a.view.read (Elt Ideal) X) b.val k.val bb.val (t3_lt b) (t4_lt k) bb.isLt := by
  rw [View.readAt_unit _ _ _ (k0_off10_eq b k bb) (by rw [← k0_off10_eq b k bb]; exact k0_off10_inb b k bb)]
  funext z
  unfold VecWindow.window win
  refine congrArg _ ?_
  funext a
  apply Fin.ext
  match a with
  | ⟨0, _⟩ => show 32 * b.val + 1 * (z 0).val = 32 * b.val + (z 0).val; omega
  | ⟨1, _⟩ => show 256 * k.val + 128 * bb.val + 1 * (z 1).val = 256 * k.val + 128 * bb.val + (z 1).val; omega

/-- The gradient of a tile's cell, from the tile's codes and scales. -/
def gT (x2 : S64x128x768.Idx → EReal) (x3 : S6x64x128.Idx → EReal) (y : S128x768.Idx) : EReal :=
  grad (fun p => x3 (ix3 ⟨(y 1).val / 128, by have : (y 1).val < 768 := (y 1).isLt; omega⟩ p (y 0))) (fun p => x2 (ix3 p (y 0) (y 1)))

/-- The first block's gradients. -/
def g0 (T : FVec Ideal S64x256 .f32) : FVec Ideal S32x128 .f32 :=
  mulf (extractStridedSlice S32x128 ![0, 0] T slices_S64x256_o0_0_S32x128) (broadcast S32x128 (Scalar.ofBits .f32 0x3C800000#32))

theorem tot_apply (arg2 : Memref sig .tc .vmem S64x128x768 .fp8e5m2) (arg13 : Memref sig .tc .vmem S3x6x64x2x128 .bf16)
    (b : Fin k0_t3_loop.trips) (k : Fin k0_t4_loop.trips) (X2 : BufTy.Contents (Elt Ideal) arg2.view.ty) (X : BufTy.Contents (Elt Ideal) arg13.view.ty)
    (x3 : S6x64x128.Idx → EReal) (hX : arg13.view.read (Elt Ideal) X = rowVal x3) (hfin : ∀ y, x3 y ≠ ⊤ ∧ x3 y ≠ ⊥) (bb : Fin 2) (r : Fin 32) (q : Fin 256) :
    trip_k0_t4.sl.r_64 (F := Ideal) arg2 arg13 b X2 X k (ix2 ⟨32 * bb.val + r.val, by omega⟩ q)
      = ∑ p : Fin 64, x3 (ix3 ⟨2 * k.val + bb.val, by have := t4_lt k; omega⟩ p ⟨32 * b.val + r.val, by have := t3_lt b; omega⟩)
          * arg2.view.read (Elt Ideal) X2 (ix3 p ⟨32 * b.val + r.val, by have := t3_lt b; omega⟩ ⟨256 * k.val + q.val, by have := t4_lt k; omega⟩) := by
  have hb := t3_lt b
  have hk := t4_lt k
  rw [r_64_eq]
  refine (totM_value _ _ (fun bb p r => x3 (ix3 ⟨2 * k.val + bb.val, by omega⟩ p ⟨32 * b.val + r.val, by omega⟩)) (fun _ _ _ => hfin _)
    (fun t bb kk par l => rawOf_apply arg13 b k X x3 hX t bb kk par l) bb r q).trans ?_
  exact Finset.sum_congr rfl fun p _ => congrArg _ (codes_apply arg2 b k X2 p r q)

theorem g0_eq (arg2 : Memref sig .tc .vmem S64x128x768 .fp8e5m2) (arg13 : Memref sig .tc .vmem S3x6x64x2x128 .bf16)
    (b : Fin k0_t3_loop.trips) (k : Fin k0_t4_loop.trips) (X2 : BufTy.Contents (Elt Ideal) arg2.view.ty) (X : BufTy.Contents (Elt Ideal) arg13.view.ty)
    (x3 : S6x64x128.Idx → EReal) (hX : arg13.view.read (Elt Ideal) X = rowVal x3) (hfin : ∀ y, x3 y ≠ ⊤ ∧ x3 y ≠ ⊥) :
    g0 (trip_k0_t4.sl.r_64 (F := Ideal) arg2 arg13 b X2 X k) = win (gT (arg2.view.read (Elt Ideal) X2) x3) b.val k.val 0 (t3_lt b) (t4_lt k) (by omega) := by
  have hb := t3_lt b
  have hk := t4_lt k
  funext z
  obtain ⟨r, q, rfl⟩ : ∃ (r : Fin 32) (q : Fin 128), z = ix2 r q := ⟨z 0, z 1, by funext a; match a with | ⟨0, _⟩ => rfl | ⟨1, _⟩ => rfl⟩
  have h := tot_apply arg2 arg13 b k X2 X x3 hX hfin 0 r ⟨q.val, by omega⟩
  unfold g0
  pointwise
  unfold win gT grad
  refine congrArg (· * _) ((congrArg _ (ix2e ?_ ?_)).trans (h.trans (Finset.sum_congr rfl fun p _ => congrArg₂ (· * ·) (congrArg x3 (ix3e ?_ ?_ ?_)) (congrArg _ (ix3e ?_ ?_ ?_)))))
  all_goals first | rfl | (dsimp [ix2]; omega)

theorem g1_eq (arg2 : Memref sig .tc .vmem S64x128x768 .fp8e5m2) (arg13 : Memref sig .tc .vmem S3x6x64x2x128 .bf16)
    (b : Fin k0_t3_loop.trips) (k : Fin k0_t4_loop.trips) (X2 : BufTy.Contents (Elt Ideal) arg2.view.ty) (X : BufTy.Contents (Elt Ideal) arg13.view.ty)
    (x3 : S6x64x128.Idx → EReal) (hX : arg13.view.read (Elt Ideal) X = rowVal x3) (hfin : ∀ y, x3 y ≠ ⊤ ∧ x3 y ≠ ⊥) :
    k0_pay404 (trip_k0_t4.sl.r_64 (F := Ideal) arg2 arg13 b X2 X k) = win (gT (arg2.view.read (Elt Ideal) X2) x3) b.val k.val 1 (t3_lt b) (t4_lt k) (by omega) := by
  have hb := t3_lt b
  have hk := t4_lt k
  funext z
  obtain ⟨r, q, rfl⟩ : ∃ (r : Fin 32) (q : Fin 128), z = ix2 r q := ⟨z 0, z 1, by funext a; match a with | ⟨0, _⟩ => rfl | ⟨1, _⟩ => rfl⟩
  have h := tot_apply arg2 arg13 b k X2 X x3 hX hfin 1 r ⟨128 + q.val, by omega⟩
  unfold k0_pay404
  pointwise
  unfold win gT grad
  refine congrArg (· * _) ((congrArg _ (ix2e ?_ ?_)).trans (h.trans (Finset.sum_congr rfl fun p _ => congrArg₂ (· * ·) (congrArg x3 (ix3e ?_ ?_ ?_)) (congrArg _ (ix3e ?_ ?_ ?_)))))
  all_goals first | rfl | (dsimp [ix2]; omega)

end Cert.Proof.KernelIdeal
-- ==== Proof.Trip.lean ====
/- The second loop's trips and the loop over row chunks of `KernelIdeal`: each result's tile is the specified one. -/
module

public import proofs.«01_k».proof.Proof.Tile
public import proofs.«01_k».proof.Proof.LoopV

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic

/-! ### A tile's cells -/

section
variable (x2 : S64x128x768.Idx → EReal) (x3 : S6x64x128.Idx → EReal) (x4 x5 x6 : S128x768.Idx → EReal)

def mT (y : S128x768.Idx) : EReal := mom (gT x2 x3 y) (x5 y)
def vT (y : S128x768.Idx) : EReal := vel (gT x2 x3 y) (x6 y)
def uT (y : S128x768.Idx) : EReal := upd (gT x2 x3 y) (x4 y) (x5 y) (x6 y)
def nT (y : S128x768.Idx) : EReal := new (gT x2 x3 y) (x4 y) (x5 y) (x6 y)
/-- The value the scale of block `cb` of row `r` is taken from. -/
def topT (r : Fin 128) (cb : Fin 6) : EReal := top fun l => nT x2 x3 x4 x5 x6 (ix2 r ⟨128 * cb.val + l.val, by omega⟩)
def cT (y : S128x768.Idx) : EReal :=
  code (nT x2 x3 x4 x5 x6 y) (topT x2 x3 x4 x5 x6 (y 0) ⟨(y 1).val / 128, by have : (y 1).val < 768 := (y 1).isLt; omega⟩)
def sT (r : Fin 128) (cb : Fin 6) : EReal := Quant.scale (topT x2 x3 x4 x5 x6 r cb)
end

/-! ### Pieces that agree with a tile -/

/-- Every piece holds the tile's values at its own place. -/
def Good {s : Shape} {e : EltTy} (L : List (View.Piece (Elt Ideal) s e)) (f : s.Idx → Elt Ideal e) : Prop :=
  ∀ p ∈ L, ∀ z : p.1.shape.Idx, p.2 z = f (p.1.emb z)

theorem Good.append {s : Shape} {e : EltTy} {L L' : List (View.Piece (Elt Ideal) s e)} {f : s.Idx → Elt Ideal e} (h : Good L f) (h' : Good L' f) : Good (L ++ L') f := by
  intro p hp
  rcases List.mem_append.1 hp with hp | hp
  · exact h p hp
  · exact h' p hp

/-- Some piece reaches the index. -/
def Hit {s : Shape} {e : EltTy} (L : List (View.Piece (Elt Ideal) s e)) (y : s.Idx) : Prop := ∃ p ∈ L, y ∈ p.1.set

theorem Hit.left {s : Shape} {e : EltTy} {L L' : List (View.Piece (Elt Ideal) s e)} {y : s.Idx} (h : Hit L y) : Hit (L ++ L') y := by
  obtain ⟨p, hp, hy⟩ := h; exact ⟨p, List.mem_append_left _ hp, hy⟩
theorem Hit.right {s : Shape} {e : EltTy} {L L' : List (View.Piece (Elt Ideal) s e)} {y : s.Idx} (h : Hit L' y) : Hit (L ++ L') y := by
  obtain ⟨p, hp, hy⟩ := h; exact ⟨p, List.mem_append_right _ hp, hy⟩

theorem read_good {s : Shape} {e : EltTy} (v : View sig .tc .vmem s e) (g : v.ty.Contents (Elt Ideal)) (f : s.Idx → Elt Ideal e) (y : s.Idx) :
    ∀ L : List (View.Piece (Elt Ideal) s e), Good L f → Hit L y → v.read (Elt Ideal) (v.writes (Elt Ideal) g L) y = f y
  | [], _, ⟨_, hm, _⟩ => absurd hm List.not_mem_nil
  | p :: L, hg, hh => by
    by_cases hy : y ∈ p.1.set
    · obtain ⟨x, rfl⟩ : ∃ x, p.1.emb x = y := p.1.exists_idx_of_mem hy
      rw [View.read_writes_cons_emb]
      exact hg p List.mem_cons_self x
    · have hy' : y ∉ Finset.univ.map p.1.emb := by rwa [Rect.map_emb_univ]
      rw [View.writes_cons, View.read_slice_write_of_not_mem p.1 _ _ _ hy']
      refine read_good v g f y L (fun q hq => hg q (List.mem_cons_of_mem _ hq)) ?_
      obtain ⟨q, hq, hyq⟩ := hh
      rcases List.mem_cons.mp hq with rfl | hq'
      · exact absurd hyq hy
      · exact ⟨q, hq', hyq⟩

theorem read_untouched {s : Shape} {e : EltTy} (v : View sig .tc .vmem s e) (g : v.ty.Contents (Elt Ideal)) (y : s.Idx) :
    ∀ L : List (View.Piece (Elt Ideal) s e), (∀ p ∈ L, y ∉ p.1.set) → v.read (Elt Ideal) (v.writes (Elt Ideal) g L) y = v.read (Elt Ideal) g y
  | [], _ => by rw [View.writes_nil]
  | p :: L, h => by
    have hy' : y ∉ Finset.univ.map p.1.emb := by rw [Rect.map_emb_univ]; exact h p List.mem_cons_self
    rw [View.writes_cons, View.read_slice_write_of_not_mem p.1 _ _ _ hy']
    exact read_untouched v g y L fun q hq => h q (List.mem_cons_of_mem _ hq)

/-- The place in the tile of a cell of block `bb` of the pair. -/
def cell (b k bb : ℕ) (hb : b < 4) (hk : k < 3) (hbb : bb < 2) (z : S32x128.Idx) : S128x768.Idx :=
  ix2 ⟨32 * b + (z 0).val, by have : (z 0).val < 32 := (z 0).isLt; omega⟩ ⟨256 * k + 128 * bb + (z 1).val, by have : (z 1).val < 128 := (z 1).isLt; omega⟩

theorem emb_cell (b : Fin k0_t3_loop.trips) (k : Fin k0_t4_loop.trips) (bb : Fin 2) (inb : ∀ a, k0_off10 b k (BitVec.ofNat 32 bb.val) a + S32x128.size a ≤ S128x768.size a) (z : S32x128.Idx) :
    (Rect.unit (s := S128x768) (k0_off10 b k (BitVec.ofNat 32 bb.val)) S32x128.size inb).emb z = cell b.val k.val bb.val (t3_lt b) (t4_lt k) bb.isLt z := by
  have h := k0_off10_eq b k bb
  funext a
  apply Fin.ext
  show k0_off10 b k (BitVec.ofNat 32 bb.val) a + 1 * (z a).val = _
  rw [h]
  match a with
  | ⟨0, _⟩ => show 32 * b.val + 1 * (z 0).val = 32 * b.val + (z 0).val; omega
  | ⟨1, _⟩ => show 256 * k.val + 128 * bb.val + 1 * (z 1).val = 256 * k.val + 128 * bb.val + (z 1).val; omega

theorem pair_good {e : EltTy} (f : S128x768.Idx → Elt Ideal e) (b : Fin k0_t3_loop.trips) (k : Fin k0_t4_loop.trips) (P1 P0 : S32x128.Idx → Elt Ideal e)
    (inb1 : ∀ a, k0_off10 b k 1#32 a + S32x128.size a ≤ S128x768.size a) (inb0 : ∀ a, k0_off10 b k 0#32 a + S32x128.size a ≤ S128x768.size a)
    (h1 : ∀ z, P1 z = f (cell b.val k.val 1 (t3_lt b) (t4_lt k) (by omega) z)) (h0 : ∀ z, P0 z = f (cell b.val k.val 0 (t3_lt b) (t4_lt k) (by omega) z)) :
    Good [⟨Rect.unit (s := S128x768) (k0_off10 b k 1#32) S32x128.size inb1, P1⟩, ⟨Rect.unit (s := S128x768) (k0_off10 b k 0#32) S32x128.size inb0, P0⟩] f := by
  intro p hp
  rcases List.mem_cons.1 hp with rfl | hp
  · intro z
    exact (h1 z).trans (congrArg f (emb_cell b k 1 inb1 z).symm)
  · rcases List.mem_cons.1 hp with rfl | hp
    · intro z
      exact (h0 z).trans (congrArg f (emb_cell b k 0 inb0 z).symm)
    · exact absurd hp List.not_mem_nil

theorem pair_hit {e : EltTy} (b : Fin k0_t3_loop.trips) (k : Fin k0_t4_loop.trips) (P1 P0 : S32x128.Idx → Elt Ideal e)
    (inb1 : ∀ a, k0_off10 b k 1#32 a + S32x128.size a ≤ S128x768.size a) (inb0 : ∀ a, k0_off10 b k 0#32 a + S32x128.size a ≤ S128x768.size a)
    (y : S128x768.Idx) (h0 : 32 * b.val ≤ (y 0).val) (h0' : (y 0).val < 32 * b.val + 32) (h1 : 256 * k.val ≤ (y 1).val) (h1' : (y 1).val < 256 * k.val + 256) :
    Hit (e := e) [⟨Rect.unit (s := S128x768) (k0_off10 b k 1#32) S32x128.size inb1, P1⟩, ⟨Rect.unit (s := S128x768) (k0_off10 b k 0#32) S32x128.size inb0, P0⟩] y := by
  have key (bb : Fin 2) (inb : ∀ a, k0_off10 b k (BitVec.ofNat 32 bb.val) a + S32x128.size a ≤ S128x768.size a) (z : S32x128.Idx)
      (hz : cell b.val k.val bb.val (t3_lt b) (t4_lt k) bb.isLt z = y) :
      y ∈ (Rect.unit (s := S128x768) (k0_off10 b k (BitVec.ofNat 32 bb.val)) S32x128.size inb).set := by
    rw [← hz, ← emb_cell b k bb inb z, ← Rect.map_emb_univ]
    exact Finset.mem_map_of_mem _ (Finset.mem_univ _)
  by_cases h : (y 1).val < 256 * k.val + 128
  · refine ⟨_, List.mem_cons_of_mem _ List.mem_cons_self, key 0 inb0 (ix2 ⟨(y 0).val - 32 * b.val, by omega⟩ ⟨(y 1).val - 256 * k.val, by omega⟩) ?_⟩
    funext a
    apply Fin.ext
    match a with
    | ⟨0, _⟩ => show 32 * b.val + ((y 0).val - 32 * b.val) = (y 0).val; omega
    | ⟨1, _⟩ => show 256 * k.val + 128 * 0 + ((y 1).val - 256 * k.val) = (y 1).val; omega
  · refine ⟨_, List.mem_cons_self, key 1 inb1 (ix2 ⟨(y 0).val - 32 * b.val, by omega⟩ ⟨(y 1).val - 256 * k.val - 128, by omega⟩) ?_⟩
    funext a
    apply Fin.ext
    match a with
    | ⟨0, _⟩ => show 32 * b.val + ((y 0).val - 32 * b.val) = (y 0).val; omega
    | ⟨1, _⟩ => show 256 * k.val + 128 * 1 + ((y 1).val - 256 * k.val - 128) = (y 1).val; omega

theorem rowTop_win (x2 : S64x128x768.Idx → EReal) (x3 : S6x64x128.Idx → EReal) (x4 x5 x6 : S128x768.Idx → EReal) (b k bb : ℕ) (hb : b < 4) (hk : k < 3) (hbb : bb < 2) (r : Fin 32) :
    rowTop (win (gT x2 x3) b k bb hb hk hbb) (win x4 b k bb hb hk hbb) (win x5 b k bb hb hk hbb) (win x6 b k bb hb hk hbb) r
      = topT x2 x3 x4 x5 x6 ⟨32 * b + r.val, by omega⟩ ⟨2 * k + bb, by omega⟩ := by
  unfold rowTop topT
  refine congrArg top (funext fun l => ?_)
  show nT x2 x3 x4 x5 x6 (ix2 ⟨32 * b + r.val, _⟩ ⟨256 * k + 128 * bb + l.val, _⟩) = _
  exact congrArg _ (ix2e rfl (by dsimp only; omega))

theorem idx_eta (z : S32x128.Idx) : ∃ (r : Fin 32) (q : Fin 128), z = ix2 r q :=
  ⟨z 0, z 1, by funext a; match a with | ⟨0, _⟩ => rfl | ⟨1, _⟩ => rfl⟩

theorem code_win (x2 : S64x128x768.Idx → EReal) (x3 : S6x64x128.Idx → EReal) (x4 x5 x6 : S128x768.Idx → EReal) (b k bb : ℕ) (hb : b < 4) (hk : k < 3) (hbb : bb < 2) (r : Fin 32) (q : Fin 128) :
    code (new (win (gT x2 x3) b k bb hb hk hbb (ix2 r q)) (win x4 b k bb hb hk hbb (ix2 r q)) (win x5 b k bb hb hk hbb (ix2 r q)) (win x6 b k bb hb hk hbb (ix2 r q)))
      (rowTop (win (gT x2 x3) b k bb hb hk hbb) (win x4 b k bb hb hk hbb) (win x5 b k bb hb hk hbb) (win x6 b k bb hb hk hbb) r)
      = cT x2 x3 x4 x5 x6 (cell b k bb hb hk hbb (ix2 r q)) := by
  rw [rowTop_win]
  unfold cT
  refine congrArg (code _) (congrArg₂ (topT x2 x3 x4 x5 x6) rfl (Fin.ext ?_))
  show 2 * k + bb = (256 * k + 128 * bb + q.val) / 128
  omega

theorem v221_eq (k : Fin k0_t4_loop.trips) : trip_k0_t4.sl.v221 k = BitVec.ofNat 32 (2 * k.val + 1) := by
  have hk : k.val < 3 := t4_lt k
  unfold trip_k0_t4.sl.v221 trip_k0_t4.sl.v47
  obtain ⟨k, h⟩ := k
  dsimp only at hk ⊢
  interval_cases k <;> rfl
theorem v48_eq (k : Fin k0_t4_loop.trips) : trip_k0_t4.sl.v48 k = BitVec.ofNat 32 (2 * k.val) := by
  have hk : k.val < 3 := t4_lt k
  unfold trip_k0_t4.sl.v48 trip_k0_t4.sl.v47
  obtain ⟨k, h⟩ := k
  dsimp only at hk ⊢
  interval_cases k <;> rfl
theorem lane_eq (n j : ℕ) (l : Fin 128) (hn : n < 6) (hj : j < 2) :
    IntOp.cmpi .eq (BitVec.ofNat 32 l.val) (Scalar.addi (Scalar.muli (BitVec.ofNat 32 j) 6#32) (BitVec.ofNat 32 n)) = if l.val = 6 * j + n then 1#1 else 0#1 := by
  have e : Scalar.addi (Scalar.muli (BitVec.ofNat 32 j) 6#32) (BitVec.ofNat 32 n) = BitVec.ofNat 32 (6 * j + n) := by
    interval_cases j <;> interval_cases n <;> rfl
  rw [e]
  show BitVec.ofBool (BitVec.ofNat 32 l.val == BitVec.ofNat 32 (6 * j + n)) = _
  by_cases h : l.val = 6 * j + n
  · rw [if_pos h, h, beq_self_eq_true]; rfl
  · rw [if_neg h, beq_eq_false_iff_ne.2]
    · rfl
    · intro h'
      have := congrArg BitVec.toNat h'
      rw [BitVec.toNat_ofNat, BitVec.toNat_ofNat] at this
      omega

theorem sel2 {c1 c0 : BitVec 1} {P Q : Prop} [Decidable P] [Decidable Q] (h1 : c1 = if P then 1#1 else 0#1) (h0 : c0 = if Q then 1#1 else 0#1) (a b d : EReal) :
    Scalar.select c1 a (Scalar.select c0 b d) = if P then a else if Q then b else d := by
  subst h1 h0
  unfold Scalar.select
  by_cases hP : P
  · rw [if_pos hP, if_pos hP]; rfl
  · rw [if_neg hP, if_neg hP]
    by_cases hQ : Q
    · rw [if_pos hQ, if_pos hQ]; rfl
    · rw [if_neg hQ, if_neg hQ]; rfl

theorem lane1 (k : Fin k0_t4_loop.trips) (i : grid0.Coords) (l : Fin 128) :
    IntOp.cmpi .eq (BitVec.ofNat 32 l.val) (Scalar.addi (Scalar.muli (BitVec.ofNat 32 (i 1).val) 6#32) (trip_k0_t4.sl.v221 k))
      = if l.val = 6 * (i 1).val + (2 * k.val + 1) then 1#1 else 0#1 := by
  rw [v221_eq]; exact lane_eq _ _ l (by have := t4_lt k; omega) (i 1).isLt
theorem lane0 (k : Fin k0_t4_loop.trips) (i : grid0.Coords) (l : Fin 128) :
    IntOp.cmpi .eq (BitVec.ofNat 32 l.val) (Scalar.addi (Scalar.muli (BitVec.ofNat 32 (i 1).val) 6#32) (trip_k0_t4.sl.v48 k))
      = if l.val = 6 * (i 1).val + 2 * k.val then 1#1 else 0#1 := by
  rw [v48_eq]; exact lane_eq _ _ l (by have := t4_lt k; omega) (i 1).isLt

/-! ### The pieces of one trip -/

/-- What a trip reads of a tile for block `bb` of the pair. -/
def rd (a : Memref sig .tc .vmem S128x768 .f32) (b : Fin k0_t3_loop.trips) (k : Fin k0_t4_loop.trips) (bb : Fin 2) (X : BufTy.Contents (Elt Ideal) a.view.ty) : FVec Ideal S32x128 .f32 :=
  a.view.readAt (Elt Ideal) (Rect.unit (s := S128x768) (k0_off10 b k (BitVec.ofNat 32 bb.val)) S32x128.size (k0_off10_inb b k bb)).toLoadRect X
theorem rd_eq (a : Memref sig .tc .vmem S128x768 .f32) (b : Fin k0_t3_loop.trips) (k : Fin k0_t4_loop.trips) (bb : Fin 2) (X : BufTy.Contents (Elt Ideal) a.view.ty) :
    rd a b k bb X = win (a.view.read (Elt Ideal) X) b.val k.val bb.val (t3_lt b) (t4_lt k) bb.isLt := win_read a b k bb X

section
variable (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole)
variable (arg1 : BitVec 32) (v25 : IVec S32x128 32) (b : Fin k0_t3_loop.trips) (v31 v32 : BitVec 32) (k : Fin k0_t4_loop.trips) (acc : FVec Ideal S32x128 .f32)
variable (X2 : BufTy.Contents (Elt Ideal) arg2.view.ty) (X4 : BufTy.Contents (Elt Ideal) arg4.view.ty) (X5 : BufTy.Contents (Elt Ideal) arg5.view.ty) (X6 : BufTy.Contents (Elt Ideal) arg6.view.ty) (X13 : BufTy.Contents (Elt Ideal) arg13.view.ty)
variable (x3 : S6x64x128.Idx → EReal) (hX : arg13.view.read (Elt Ideal) X13 = rowVal x3) (hfin : ∀ y, x3 y ≠ ⊤ ∧ x3 y ≠ ⊥)

include hX hfin in
theorem tripL_good :
    Good (tripL_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 k acc).1
        (nT (arg2.view.read (Elt Ideal) X2) x3 (arg4.view.read (Elt Ideal) X4) (arg5.view.read (Elt Ideal) X5) (arg6.view.read (Elt Ideal) X6))
    ∧ Good (tripL_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 k acc).2.1
        (mT (arg2.view.read (Elt Ideal) X2) x3 (arg5.view.read (Elt Ideal) X5))
    ∧ Good (tripL_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 k acc).2.2.1
        (vT (arg2.view.read (Elt Ideal) X2) x3 (arg6.view.read (Elt Ideal) X6))
    ∧ Good (tripL_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 k acc).2.2.2.1
        (uT (arg2.view.read (Elt Ideal) X2) x3 (arg4.view.read (Elt Ideal) X4) (arg5.view.read (Elt Ideal) X5) (arg6.view.read (Elt Ideal) X6))
    ∧ Good (tripL_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 k acc).2.2.2.2
        (cT (arg2.view.read (Elt Ideal) X2) x3 (arg4.view.read (Elt Ideal) X4) (arg5.view.read (Elt Ideal) X5) (arg6.view.read (Elt Ideal) X6)) := by
  have hg0 := g0_eq arg2 arg13 b k X2 X13 x3 hX hfin
  have hg1 := g1_eq arg2 arg13 b k X2 X13 x3 hX hfin
  unfold tripL_k0_t4 trip_k0_t4
  dsimp only
  refine ⟨pair_good _ b k _ _ _ _ ?_ ?_, pair_good _ b k _ _ _ _ ?_ ?_, pair_good _ b k _ _ _ _ ?_ ?_, pair_good _ b k _ _ _ _ ?_ ?_, pair_good _ b k _ _ _ _ ?_ ?_⟩
  · intro z
    refine (congrFun (uN_eq (trip_k0_t4.sl.r_64 arg2 arg13 b X2 X13 k) (rd arg4 b k 1 X4) (rd arg5 b k 1 X5) (rd arg6 b k 1 X6)) z).trans ?_
    rw [tN_apply, hg1, rd_eq arg4 b k 1 X4, rd_eq arg5 b k 1 X5, rd_eq arg6 b k 1 X6]
    rfl
  · intro z
    refine (tN_apply (g0 (trip_k0_t4.sl.r_64 arg2 arg13 b X2 X13 k)) (rd arg4 b k 0 X4) (rd arg5 b k 0 X5) (rd arg6 b k 0 X6) z).trans ?_
    rw [hg0, rd_eq arg4 b k 0 X4, rd_eq arg5 b k 0 X5, rd_eq arg6 b k 0 X6]
    rfl
  · intro z
    refine (congrFun (uM_eq (trip_k0_t4.sl.r_64 arg2 arg13 b X2 X13 k) (rd arg5 b k 1 X5)) z).trans ?_
    rw [tM_apply, hg1, rd_eq arg5 b k 1 X5]
    rfl
  · intro z
    refine (tM_apply (g0 (trip_k0_t4.sl.r_64 arg2 arg13 b X2 X13 k)) (rd arg5 b k 0 X5) z).trans ?_
    rw [hg0, rd_eq arg5 b k 0 X5]
    rfl
  · intro z
    refine (congrFun (uV_eq (trip_k0_t4.sl.r_64 arg2 arg13 b X2 X13 k) (rd arg6 b k 1 X6)) z).trans ?_
    rw [tV_apply, hg1, rd_eq arg6 b k 1 X6]
    rfl
  · intro z
    refine (tV_apply (g0 (trip_k0_t4.sl.r_64 arg2 arg13 b X2 X13 k)) (rd arg6 b k 0 X6) z).trans ?_
    rw [hg0, rd_eq arg6 b k 0 X6]
    rfl
  · intro z
    refine (congrFun (uU_eq (trip_k0_t4.sl.r_64 arg2 arg13 b X2 X13 k) (rd arg4 b k 1 X4) (rd arg5 b k 1 X5) (rd arg6 b k 1 X6)) z).trans ?_
    rw [tU_apply, hg1, rd_eq arg4 b k 1 X4, rd_eq arg5 b k 1 X5, rd_eq arg6 b k 1 X6]
    rfl
  · intro z
    refine (tU_apply (g0 (trip_k0_t4.sl.r_64 arg2 arg13 b X2 X13 k)) (rd arg4 b k 0 X4) (rd arg5 b k 0 X5) (rd arg6 b k 0 X6) z).trans ?_
    rw [hg0, rd_eq arg4 b k 0 X4, rd_eq arg5 b k 0 X5, rd_eq arg6 b k 0 X6]
    rfl
  · intro z
    obtain ⟨r, q, rfl⟩ := idx_eta z
    refine (uC_apply (trip_k0_t4.sl.r_64 arg2 arg13 b X2 X13 k) (rd arg4 b k 1 X4) (rd arg5 b k 1 X5) (rd arg6 b k 1 X6) r q).trans ?_
    rw [hg1, rd_eq arg4 b k 1 X4, rd_eq arg5 b k 1 X5, rd_eq arg6 b k 1 X6]
    exact code_win _ _ _ _ _ _ _ _ _ _ _ r q
  · intro z
    obtain ⟨r, q, rfl⟩ := idx_eta z
    refine (tC_apply (g0 (trip_k0_t4.sl.r_64 arg2 arg13 b X2 X13 k)) (rd arg4 b k 0 X4) (rd arg5 b k 0 X5) (rd arg6 b k 0 X6) r q).trans ?_
    rw [hg0, rd_eq arg4 b k 0 X4, rd_eq arg5 b k 0 X5, rd_eq arg6 b k 0 X6]
    exact code_win _ _ _ _ _ _ _ _ _ _ _ r q

theorem tripL_hit (y : S128x768.Idx) (h0 : 32 * b.val ≤ (y 0).val) (h0' : (y 0).val < 32 * b.val + 32) (h1 : 256 * k.val ≤ (y 1).val) (h1' : (y 1).val < 256 * k.val + 256) :
    Hit (tripL_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 k acc).1 y ∧ Hit (tripL_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 k acc).2.1 y ∧ Hit (tripL_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 k acc).2.2.1 y ∧ Hit (tripL_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 k acc).2.2.2.1 y ∧ Hit (tripL_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 k acc).2.2.2.2 y := by
  unfold tripL_k0_t4 trip_k0_t4
  dsimp only
  exact ⟨pair_hit b k _ _ _ _ y h0 h0' h1 h1', pair_hit b k _ _ _ _ y h0 h0' h1 h1', pair_hit b k _ _ _ _ y h0 h0' h1 h1', pair_hit b k _ _ _ _ y h0 h0' h1 h1', pair_hit b k _ _ _ _ y h0 h0' h1 h1'⟩

include hX hfin in
theorem tripR_eq (harg1 : arg1 = BitVec.ofNat 32 (i 1).val) (hv25 : v25 = iota .tc S32x128 32 [1] iota_S32x128_d1_w32) (r : Fin 32) (l : Fin 128) :
    tripR_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 k acc (ix2 r l)
      = if l.val = 6 * (i 1).val + (2 * k.val + 1) then sT (arg2.view.read (Elt Ideal) X2) x3 (arg4.view.read (Elt Ideal) X4) (arg5.view.read (Elt Ideal) X5) (arg6.view.read (Elt Ideal) X6) ⟨32 * b.val + r.val, by have := t3_lt b; omega⟩ ⟨2 * k.val + 1, by have := t4_lt k; omega⟩
        else if l.val = 6 * (i 1).val + 2 * k.val then sT (arg2.view.read (Elt Ideal) X2) x3 (arg4.view.read (Elt Ideal) X4) (arg5.view.read (Elt Ideal) X5) (arg6.view.read (Elt Ideal) X6) ⟨32 * b.val + r.val, by have := t3_lt b; omega⟩ ⟨2 * k.val, by have := t4_lt k; omega⟩
        else acc (ix2 r l) := by
  have hg0 := g0_eq arg2 arg13 b k X2 X13 x3 hX hfin
  have hg1 := g1_eq arg2 arg13 b k X2 X13 x3 hX hfin
  have q1 : rowTop (k0_pay404 (trip_k0_t4.sl.r_64 arg2 arg13 b X2 X13 k)) (rd arg4 b k 1 X4) (rd arg5 b k 1 X5) (rd arg6 b k 1 X6) r = topT (arg2.view.read (Elt Ideal) X2) x3 (arg4.view.read (Elt Ideal) X4) (arg5.view.read (Elt Ideal) X5) (arg6.view.read (Elt Ideal) X6) ⟨32 * b.val + r.val, by have := t3_lt b; omega⟩ ⟨2 * k.val + 1, by have := t4_lt k; omega⟩ := by
    rw [hg1, rd_eq arg4 b k 1 X4, rd_eq arg5 b k 1 X5, rd_eq arg6 b k 1 X6]; exact rowTop_win _ _ _ _ _ _ _ _ _ _ _ r
  have q0 : rowTop (g0 (trip_k0_t4.sl.r_64 arg2 arg13 b X2 X13 k)) (rd arg4 b k 0 X4) (rd arg5 b k 0 X5) (rd arg6 b k 0 X6) r = topT (arg2.view.read (Elt Ideal) X2) x3 (arg4.view.read (Elt Ideal) X4) (arg5.view.read (Elt Ideal) X5) (arg6.view.read (Elt Ideal) X6) ⟨32 * b.val + r.val, by have := t3_lt b; omega⟩ ⟨2 * k.val + 0, by have := t4_lt k; omega⟩ := by
    rw [hg0, rd_eq arg4 b k 0 X4, rd_eq arg5 b k 0 X5, rd_eq arg6 b k 0 X6]; exact rowTop_win _ _ _ _ _ _ _ _ _ _ _ r
  have s1 := (uS_apply (trip_k0_t4.sl.r_64 arg2 arg13 b X2 X13 k) (rd arg4 b k 1 X4) (rd arg5 b k 1 X5) (rd arg6 b k 1 X6) r).trans (congrArg Quant.scale q1)
  have s0 := (tS_apply (g0 (trip_k0_t4.sl.r_64 arg2 arg13 b X2 X13 k)) (rd arg4 b k 0 X4) (rd arg5 b k 0 X5) (rd arg6 b k 0 X6) r).trans (congrArg Quant.scale q0)
  unfold sT
  refine Eq.trans ?_ (congrArg₂ (fun x y => if l.val = 6 * (i 1).val + (2 * k.val + 1) then x else if l.val = 6 * (i 1).val + 2 * k.val then y else acc (ix2 r l)) s1 s0)
  unfold tripR_k0_t4 trip_k0_t4
  show k0_pay6 i (k0_pay403 arg1 v25 acc (trip_k0_t4.sl.v48 k) (tS (g0 (trip_k0_t4.sl.r_64 arg2 arg13 b X2 X13 k)) (rd arg4 b k 0 X4) (rd arg5 b k 0 X5) (rd arg6 b k 0 X6))) (trip_k0_t4.sl.v221 k) (k0_pay415 (k0_pay411 (rd arg4 b k 1 X4) (k0_pay405 (trip_k0_t4.sl.r_64 arg2 arg13 b X2 X13 k) (rd arg5 b k 1 X5)) (k0_pay406 (rd arg6 b k 1 X6)) (k0_pay407 (trip_k0_t4.sl.r_64 arg2 arg13 b X2 X13 k))) (k0_pay412 (rd arg4 b k 1 X4) (k0_pay405 (trip_k0_t4.sl.r_64 arg2 arg13 b X2 X13 k) (rd arg5 b k 1 X5)) (k0_pay406 (rd arg6 b k 1 X6)) (k0_pay407 (trip_k0_t4.sl.r_64 arg2 arg13 b X2 X13 k)))) (ix2 r l) = _
  generalize (tS (g0 (trip_k0_t4.sl.r_64 arg2 arg13 b X2 X13 k)) (rd arg4 b k 0 X4) (rd arg5 b k 0 X5) (rd arg6 b k 0 X6)) = S0
  generalize (k0_pay415 (k0_pay411 (rd arg4 b k 1 X4) (k0_pay405 (trip_k0_t4.sl.r_64 arg2 arg13 b X2 X13 k) (rd arg5 b k 1 X5)) (k0_pay406 (rd arg6 b k 1 X6)) (k0_pay407 (trip_k0_t4.sl.r_64 arg2 arg13 b X2 X13 k))) (k0_pay412 (rd arg4 b k 1 X4) (k0_pay405 (trip_k0_t4.sl.r_64 arg2 arg13 b X2 X13 k) (rd arg5 b k 1 X5)) (k0_pay406 (rd arg6 b k 1 X6)) (k0_pay407 (trip_k0_t4.sl.r_64 arg2 arg13 b X2 X13 k)))) = S1
  subst harg1 hv25
  unfold k0_pay6 k0_pay403
  pointwise
  exact sel2 (lane1 k i l) (lane0 k i l) _ _ _
/-- A tile's scale, by the block's number. -/
def sN (x2 : S64x128x768.Idx → EReal) (x3 : S6x64x128.Idx → EReal) (x4 x5 x6 : S128x768.Idx → EReal) (r : Fin 128) (cb : ℕ) : EReal :=
  if h : cb < 6 then sT x2 x3 x4 x5 x6 r ⟨cb, h⟩ else 0

theorem trips4 : k0_t4_loop.trips = 3 := by decide
theorem trips3 : k0_t3_loop.trips = 4 := by decide

include hX hfin in
theorem st_good : ∀ n : ℕ, n ≤ 3 → Good (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc n).2.1 (nT (arg2.view.read (Elt Ideal) X2) x3 (arg4.view.read (Elt Ideal) X4) (arg5.view.read (Elt Ideal) X5) (arg6.view.read (Elt Ideal) X6)) ∧ Good (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc n).2.2.1 (mT (arg2.view.read (Elt Ideal) X2) x3 (arg5.view.read (Elt Ideal) X5)) ∧ Good (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc n).2.2.2.1 (vT (arg2.view.read (Elt Ideal) X2) x3 (arg6.view.read (Elt Ideal) X6)) ∧ Good (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc n).2.2.2.2.1 (uT (arg2.view.read (Elt Ideal) X2) x3 (arg4.view.read (Elt Ideal) X4) (arg5.view.read (Elt Ideal) X5) (arg6.view.read (Elt Ideal) X6)) ∧ Good (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc n).2.2.2.2.2 (cT (arg2.view.read (Elt Ideal) X2) x3 (arg4.view.read (Elt Ideal) X4) (arg5.view.read (Elt Ideal) X5) (arg6.view.read (Elt Ideal) X6))
  | 0, _ => ⟨fun p hp => absurd hp List.not_mem_nil, fun p hp => absurd hp List.not_mem_nil, fun p hp => absurd hp List.not_mem_nil, fun p hp => absurd hp List.not_mem_nil, fun p hp => absurd hp List.not_mem_nil⟩
  | n + 1, hn => by
    have e := st_k0_t4_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc ⟨n, by rw [trips4]; omega⟩
    dsimp only at e
    have ih := st_good n (by omega)
    have g := tripL_good c i arg2 harg2 arg3 harg3 arg4 harg4 arg5 harg5 arg6 harg6 arg7 harg7 arg8 harg8 arg9 harg9 arg10 harg10 arg11 harg11 arg12 harg12 arg13 harg13 arg14 harg14 arg1 v25 b v31 v32 ⟨n, by rw [trips4]; omega⟩ (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc n).1 X2 X4 X5 X6 X13 x3 hX hfin
    rw [e]
    exact ⟨g.1.append ih.1, g.2.1.append ih.2.1, g.2.2.1.append ih.2.2.1, g.2.2.2.1.append ih.2.2.2.1, g.2.2.2.2.append ih.2.2.2.2⟩

theorem st_hit (y : S128x768.Idx) (h0 : 32 * b.val ≤ (y 0).val) (h0' : (y 0).val < 32 * b.val + 32) : ∀ n : ℕ, n ≤ 3 → (y 1).val < 256 * n →
    Hit (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc n).2.1 y ∧ Hit (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc n).2.2.1 y ∧ Hit (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc n).2.2.2.1 y ∧ Hit (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc n).2.2.2.2.1 y ∧ Hit (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc n).2.2.2.2.2 y
  | 0, _, h => absurd h (by omega)
  | n + 1, hn, h => by
    have e := st_k0_t4_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc ⟨n, by rw [trips4]; omega⟩
    dsimp only at e
    rw [e]
    by_cases hy : (y 1).val < 256 * n
    · have ih := st_hit y h0 h0' n (by omega) hy
      exact ⟨ih.1.right, ih.2.1.right, ih.2.2.1.right, ih.2.2.2.1.right, ih.2.2.2.2.right⟩
    · have g := tripL_hit c i arg2 harg2 arg3 harg3 arg4 harg4 arg5 harg5 arg6 harg6 arg7 harg7 arg8 harg8 arg9 harg9 arg10 harg10 arg11 harg11 arg12 harg12 arg13 harg13 arg14 harg14 arg1 v25 b v31 v32 ⟨n, by rw [trips4]; omega⟩ (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc n).1 X2 X4 X5 X6 X13 y h0 h0' (by dsimp only; omega) (by dsimp only; omega)
      exact ⟨g.1.left, g.2.1.left, g.2.2.1.left, g.2.2.2.1.left, g.2.2.2.2.left⟩

include hX hfin in
theorem st_acc (harg1 : arg1 = BitVec.ofNat 32 (i 1).val) (hv25 : v25 = iota .tc S32x128 32 [1] iota_S32x128_d1_w32) (r : Fin 32) (l : Fin 128) : ∀ n : ℕ, n ≤ 3 →
    (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc n).1 (ix2 r l)
      = if 6 * (i 1).val ≤ l.val ∧ l.val < 6 * (i 1).val + 2 * n then sN (arg2.view.read (Elt Ideal) X2) x3 (arg4.view.read (Elt Ideal) X4) (arg5.view.read (Elt Ideal) X5) (arg6.view.read (Elt Ideal) X6) ⟨32 * b.val + r.val, by have := t3_lt b; omega⟩ (l.val - 6 * (i 1).val) else acc (ix2 r l)
  | 0, _ => by rw [if_neg (by omega)]; rfl
  | n + 1, hn => by
    have e := st_k0_t4_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc ⟨n, by rw [trips4]; omega⟩
    dsimp only at e
    have ih := st_acc harg1 hv25 r l n (by omega)
    rw [e]
    refine (tripR_eq c i arg2 harg2 arg3 harg3 arg4 harg4 arg5 harg5 arg6 harg6 arg7 harg7 arg8 harg8 arg9 harg9 arg10 harg10 arg11 harg11 arg12 harg12 arg13 harg13 arg14 harg14 arg1 v25 b v31 v32 ⟨n, by rw [trips4]; omega⟩ (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 b v31 v32 X2 X4 X5 X6 X13 acc n).1 X2 X4 X5 X6 X13 x3 hX hfin harg1 hv25 r l).trans ?_
    rw [ih]
    dsimp only
    unfold sN
    by_cases h1 : l.val = 6 * (i 1).val + (2 * n + 1)
    · rw [if_pos h1, if_pos (by omega), dif_pos (by omega)]
      exact congrArg _ (Fin.ext (by dsimp only; omega))
    rw [if_neg h1]
    by_cases h2 : l.val = 6 * (i 1).val + 2 * n
    · rw [if_pos h2, if_pos (by omega), dif_pos (by omega)]
      exact congrArg _ (Fin.ext (by dsimp only; omega))
    rw [if_neg h2]
    by_cases h3 : 6 * (i 1).val ≤ l.val ∧ l.val < 6 * (i 1).val + 2 * n
    · rw [if_pos h3, if_pos (by omega)]
    · rw [if_neg h3, if_neg (by omega)]
end

/-! ### The loop over row chunks -/

section
variable (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole)
variable (arg1 : BitVec 32) (v25 : IVec S32x128 32) (G14 : BufTy.Contents (Elt Ideal) arg14.view.ty)
variable (X2 : BufTy.Contents (Elt Ideal) arg2.view.ty) (X4 : BufTy.Contents (Elt Ideal) arg4.view.ty) (X5 : BufTy.Contents (Elt Ideal) arg5.view.ty) (X6 : BufTy.Contents (Elt Ideal) arg6.view.ty) (X13 : BufTy.Contents (Elt Ideal) arg13.view.ty)
variable (x3 : S6x64x128.Idx → EReal) (hX : arg13.view.read (Elt Ideal) X13 = rowVal x3) (hfin : ∀ y, x3 y ≠ ⊤ ∧ x3 y ≠ ⊥)

include hX hfin in
theorem out_good : ∀ n : ℕ, n ≤ 4 → Good (outPb (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 n).1 (nT (arg2.view.read (Elt Ideal) X2) x3 (arg4.view.read (Elt Ideal) X4) (arg5.view.read (Elt Ideal) X5) (arg6.view.read (Elt Ideal) X6)) ∧ Good (outPb (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 n).2.1 (mT (arg2.view.read (Elt Ideal) X2) x3 (arg5.view.read (Elt Ideal) X5)) ∧ Good (outPb (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 n).2.2.1 (vT (arg2.view.read (Elt Ideal) X2) x3 (arg6.view.read (Elt Ideal) X6)) ∧ Good (outPb (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 n).2.2.2.1 (uT (arg2.view.read (Elt Ideal) X2) x3 (arg4.view.read (Elt Ideal) X4) (arg5.view.read (Elt Ideal) X5) (arg6.view.read (Elt Ideal) X6)) ∧ Good (outPb (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 n).2.2.2.2.1 (cT (arg2.view.read (Elt Ideal) X2) x3 (arg4.view.read (Elt Ideal) X4) (arg5.view.read (Elt Ideal) X5) (arg6.view.read (Elt Ideal) X6))
  | 0, _ => ⟨fun p hp => absurd hp List.not_mem_nil, fun p hp => absurd hp List.not_mem_nil, fun p hp => absurd hp List.not_mem_nil, fun p hp => absurd hp List.not_mem_nil, fun p hp => absurd hp List.not_mem_nil⟩
  | n + 1, hn => by
    have ih := out_good n (by omega)
    have e := outPb_succ (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 ⟨n, by rw [trips3]; omega⟩
    dsimp only at e
    rw [e, trips4]
    have g := fun v31 v32 acc => st_good c i arg2 harg2 arg3 harg3 arg4 harg4 arg5 harg5 arg6 harg6 arg7 harg7 arg8 harg8 arg9 harg9 arg10 harg10 arg11 harg11 arg12 harg12 arg13 harg13 arg14 harg14 arg1 v25 ⟨n, by rw [trips3]; omega⟩ v31 v32 acc X2 X4 X5 X6 X13 x3 hX hfin 3 (by omega)
    exact ⟨(g _ _ _).1.append ih.1, (g _ _ _).2.1.append ih.2.1, (g _ _ _).2.2.1.append ih.2.2.1, (g _ _ _).2.2.2.1.append ih.2.2.2.1, (g _ _ _).2.2.2.2.append ih.2.2.2.2⟩

theorem out_hit (y : S128x768.Idx) : ∀ n : ℕ, n ≤ 4 → (y 0).val < 32 * n →
    Hit (outPb (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 n).1 y ∧ Hit (outPb (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 n).2.1 y ∧ Hit (outPb (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 n).2.2.1 y ∧ Hit (outPb (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 n).2.2.2.1 y ∧ Hit (outPb (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 n).2.2.2.2.1 y
  | 0, _, h => absurd h (by omega)
  | n + 1, hn, h => by
    have e := outPb_succ (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 ⟨n, by rw [trips3]; omega⟩
    dsimp only at e
    rw [e, trips4]
    by_cases hy : (y 0).val < 32 * n
    · have ih := out_hit y n (by omega) hy
      exact ⟨ih.1.right, ih.2.1.right, ih.2.2.1.right, ih.2.2.2.1.right, ih.2.2.2.2.right⟩
    · have g := fun v31 v32 acc => st_hit c i arg2 harg2 arg3 harg3 arg4 harg4 arg5 harg5 arg6 harg6 arg7 harg7 arg8 harg8 arg9 harg9 arg10 harg10 arg11 harg11 arg12 harg12 arg13 harg13 arg14 harg14 arg1 v25 ⟨n, by rw [trips3]; omega⟩ v31 v32 acc X2 X4 X5 X6 X13 y (by dsimp only; omega) (by dsimp only; omega) 3 (by omega) (by have : (y 1).val < 768 := (y 1).isLt; omega)
      exact ⟨(g _ _ _).1.left, (g _ _ _).2.1.left, (g _ _ _).2.2.1.left, (g _ _ _).2.2.2.1.left, (g _ _ _).2.2.2.2.left⟩

/-- What the stage holds after a tile: the tile's scales in its own lanes, the rest as before. -/
def stageT (j : ℕ) (x2 : S64x128x768.Idx → EReal) (x3 : S6x64x128.Idx → EReal) (x4 x5 x6 : S128x768.Idx → EReal) (x14 : S128x128.Idx → EReal) (y : S128x128.Idx) : EReal :=
  if 6 * j ≤ (y 1).val ∧ (y 1).val < 6 * j + 6 then sN x2 x3 x4 x5 x6 (y 0) ((y 1).val - 6 * j) else x14 y

theorem emb5 (b : Fin k0_t3_loop.trips) (inb : ∀ a, k0_off5 b a + S32x128.size a ≤ S128x128.size a) (z : S32x128.Idx) :
    (Rect.unit (s := S128x128) (k0_off5 b) S32x128.size inb).emb z
      = ix2 ⟨32 * b.val + (z 0).val, by have := t3_lt b; have : (z 0).val < 32 := (z 0).isLt; omega⟩ (z 1) := by
  have h := k0_off5_eq b
  funext a
  apply Fin.ext
  show k0_off5 b a + 1 * (z a).val = _
  rw [h]
  match a with
  | ⟨0, _⟩ => show 32 * b.val + 1 * (z 0).val = 32 * b.val + (z 0).val; omega
  | ⟨1, _⟩ => show 0 + 1 * (z 1).val = (z 1).val; omega

theorem mem5 (b : Fin k0_t3_loop.trips) (inb : ∀ a, k0_off5 b a + S32x128.size a ≤ S128x128.size a) (y : S128x128.Idx) :
    y ∈ (Rect.unit (s := S128x128) (k0_off5 b) S32x128.size inb).set ↔ 32 * b.val ≤ (y 0).val ∧ (y 0).val < 32 * b.val + 32 := by
  rw [← Rect.map_emb_univ]
  constructor
  · intro h
    obtain ⟨z, _, hz⟩ := Finset.mem_map.1 h
    rw [emb5] at hz
    have : (z 0).val < 32 := (z 0).isLt
    have h0 := congrArg (fun y : S128x128.Idx => (y 0).val) hz
    have h0' : 32 * b.val + (z 0).val = (y 0).val := h0
    omega
  · intro h
    refine Finset.mem_map.2 ⟨ix2 ⟨(y 0).val - 32 * b.val, by omega⟩ (y 1), Finset.mem_univ _, ?_⟩
    rw [emb5]
    funext a
    apply Fin.ext
    match a with
    | ⟨0, _⟩ => show 32 * b.val + ((y 0).val - 32 * b.val) = (y 0).val; omega
    | ⟨1, _⟩ => rfl

include hX hfin in
theorem out_stage (harg1 : arg1 = BitVec.ofNat 32 (i 1).val) (hv25 : v25 = iota .tc S32x128 32 [1] iota_S32x128_d1_w32) : ∀ n : ℕ, n ≤ 4 →
    Good (outPb (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 n).2.2.2.2.2 (stageT (i 1).val (arg2.view.read (Elt Ideal) X2) x3 (arg4.view.read (Elt Ideal) X4) (arg5.view.read (Elt Ideal) X5) (arg6.view.read (Elt Ideal) X6) (arg14.view.read (Elt Ideal) G14))
    ∧ (∀ p ∈ (outPb (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 n).2.2.2.2.2, ∀ y ∈ p.1.set, (y 0).val < 32 * n)
    ∧ ∀ y : S128x128.Idx, (y 0).val < 32 * n → Hit (outPb (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 n).2.2.2.2.2 y
  | 0, _ => ⟨fun p hp => absurd hp List.not_mem_nil, fun p hp => absurd hp List.not_mem_nil, fun y h => absurd h (by omega)⟩
  | n + 1, hn => by
    obtain ⟨ih1, ih2, ih3⟩ := out_stage harg1 hv25 n (by omega)
    have e := outPb_succ (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 ⟨n, by rw [trips3]; omega⟩
    dsimp only at e
    rw [e, trips4]
    refine ⟨?_, ?_, ?_⟩
    · intro p hp
      rcases List.mem_cons.1 hp with rfl | hp
      · intro z
        obtain ⟨r, l, rfl⟩ := idx_eta z
        refine Eq.trans ?_ (congrArg (stageT (i 1).val (arg2.view.read (Elt Ideal) X2) x3 (arg4.view.read (Elt Ideal) X4) (arg5.view.read (Elt Ideal) X5) (arg6.view.read (Elt Ideal) X6) (arg14.view.read (Elt Ideal) G14)) (emb5 ⟨n, by rw [trips3]; omega⟩ (k0_off5_inb _) (ix2 r l)).symm)
        have hp7 (w : FVec Ideal S32x128 .f32) : k0_pay7 w (ix2 r l) = w (ix2 r l) := by
          unfold k0_pay7; pointwise
        refine (hp7 _).trans ((st_acc c i arg2 harg2 arg3 harg3 arg4 harg4 arg5 harg5 arg6 harg6 arg7 harg7 arg8 harg8 arg9 harg9 arg10 harg10 arg11 harg11 arg12 harg12 arg13 harg13 arg14 harg14 arg1 v25 ⟨n, by rw [trips3]; omega⟩ _ _ _ X2 X4 X5 X6 X13 x3 hX hfin harg1 hv25 r l 3 (by omega)).trans ?_)
        unfold stageT
        refine congrArg (fun w => if 6 * (i 1).val ≤ l.val ∧ l.val < 6 * (i 1).val + 6 then sN _ _ _ _ _ _ _ else w) ?_
        refine Eq.trans ?_ (read_untouched arg14.view G14 (ix2 ⟨32 * n + r.val, by omega⟩ l) (outPb (F := Ideal) c i arg2 harg2 arg3 harg3 arg4 harg4 arg5 harg5 arg6 harg6 arg7 harg7 arg8 harg8 arg9 harg9 arg10 harg10 arg11 harg11 arg12 harg12 arg13 harg13 arg14 harg14 arg1 v25 X2 X4 X5 X6 X13 G14 n).2.2.2.2.2 ?_)
        · rw [View.readAt_unit _ _ _ (k0_off5_eq ⟨n, by rw [trips3]; omega⟩) (by rw [← k0_off5_eq ⟨n, by rw [trips3]; omega⟩]; exact k0_off5_inb _)]
          unfold VecWindow.window
          refine congrArg _ ?_
          funext a
          apply Fin.ext
          match a with
          | ⟨0, _⟩ => show 32 * n + 1 * r.val = 32 * n + r.val; omega
          | ⟨1, _⟩ => show 0 + 1 * l.val = l.val; omega
        · intro q hq hy
          have := ih2 q hq _ hy
          have : 32 * n + r.val < 32 * n := this
          omega
      · exact ih1 p hp
    · intro p hp y hy
      rcases List.mem_cons.1 hp with rfl | hp
      · have := (mem5 ⟨n, by rw [trips3]; omega⟩ (k0_off5_inb _) y).1 hy
        dsimp only at this
        omega
      · have := ih2 p hp y hy
        omega
    · intro y hy
      by_cases h : (y 0).val < 32 * n
      · obtain ⟨p, hp, hpy⟩ := ih3 y h
        exact ⟨p, List.mem_cons_of_mem _ hp, hpy⟩
      · exact ⟨_, List.mem_cons_self, (mem5 ⟨n, by rw [trips3]; omega⟩ (k0_off5_inb _) y).2 (by dsimp only; omega)⟩

end

end Cert.Proof.KernelIdeal
-- ==== Proof.TileRel.lean ====
/- What the body leaves at a point, as functions of the blocks it is given. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.SoundV
public import proofs.«01_k».proof.Proof.Rows
public import proofs.«01_k».proof.Proof.Trip
public import Idealize.ShloMosaic.Lib.Pointwise

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- What a point leaves: each result's block at every element, the stage, and the scales where they are written. -/
structure Leaves6 (i : grid0.Coords) (x2 : S64x128x768.Idx → EReal) (x3 : S6x64x128.Idx → EReal) (x4 x5 x6 : S128x768.Idx → EReal) (x14 : S128x128.Idx → EReal)
    (e7 e8 e9 e10 e11 : S128x768.Idx → EReal) (e12 : S12x128.Idx → EReal) (e14 : S128x128.Idx → EReal) : Prop where
  new : e7 = nT x2 x3 x4 x5 x6
  mom : e8 = mT x2 x3 x5
  vel : e9 = vT x2 x3 x6
  upd : e10 = uT x2 x3 x4 x5 x6
  code : e11 = cT x2 x3 x4 x5 x6
  stage : e14 = stageT (i 1).val x2 x3 x4 x5 x6 x14
  scale : k0_cond1 i = 1#1 → ∀ (cb : Fin 12) (r : Fin 128), e12 (ix2 cb r) = e14 (ix2 r ⟨cb.val, by omega⟩)

theorem pay8_apply (v : S128x128.Idx → EReal) (cb : Fin 12) (r : Fin 128) : k0_pay8 (F := Ideal) v (ix2 cb r) = v (ix2 r ⟨cb.val, by omega⟩) := by
  unfold k0_pay8
  pointwise
  try rfl

theorem leaves6_of_rel (c : Dev nD) (i : grid0.Coords) (arg2 : Memref sig .tc .vmem S64x128x768 .fp8e5m2) (harg2 : arg2.IsWhole) (arg3 : Memref sig .tc .vmem S6x64x128 .f32) (harg3 : arg3.IsWhole) (arg4 : Memref sig .tc .vmem S128x768 .f32) (harg4 : arg4.IsWhole) (arg5 : Memref sig .tc .vmem S128x768 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S128x768 .f32) (harg8 : arg8.IsWhole) (arg9 : Memref sig .tc .vmem S128x768 .f32) (harg9 : arg9.IsWhole) (arg10 : Memref sig .tc .vmem S128x768 .f32) (harg10 : arg10.IsWhole) (arg11 : Memref sig .tc .vmem S128x768 .fp8e4m3) (harg11 : arg11.IsWhole) (arg12 : Memref sig .tc .vmem S12x128 .f32) (harg12 : arg12.IsWhole) (arg13 : Memref sig .tc .vmem S3x6x64x2x128 .bf16) (harg13 : arg13.IsWhole) (arg14 : Memref sig .tc .vmem S128x128 .f32) (harg14 : arg14.IsWhole) (x2 : S64x128x768.Idx → EReal) (x3 : S6x64x128.Idx → EReal) (x4 x5 x6 : S128x768.Idx → EReal) (x14 : S128x128.Idx → EReal)
    (e7 e8 e9 e10 e11 : S128x768.Idx → EReal) (e12 : S12x128.Idx → EReal) (e14 : S128x128.Idx → EReal) (hfin : ∀ y, x3 y ≠ ⊤ ∧ x3 y ≠ ⊥)
    (h : BodyRel (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x14 e7 e8 e9 e10 e11 e12 e14) :
    Leaves6 i x2 x3 x4 x5 x6 x14 e7 e8 e9 e10 e11 e12 e14 := by
  obtain ⟨X2, X3, X4, X5, X6, g7, g8, g9, g10, g11, g13, f14, rfl, rfl, rfl, rfl, rfl, rfl, rfl, rfl, rfl, rfl, rfl, h14, h12⟩ := h
  have hX := rows_read c i arg2 harg2 arg3 harg3 arg4 harg4 arg5 harg5 arg6 harg6 arg7 harg7 arg8 harg8 arg9 harg9 arg10 harg10 arg11 harg11 arg12 harg12 arg13 harg13 arg14 harg14 X3 g13
  have hg := out_good c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S32x128 32 [1] iota_S32x128_d1_w32) f14 X2 X4 X5 X6 _ (arg3.view.read (Elt Ideal) X3) hX hfin 4 (by omega)
  have hh := fun y : S128x768.Idx => out_hit c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S32x128 32 [1] iota_S32x128_d1_w32) f14 X2 X4 X5 X6 (arg13.view.writes (Elt Ideal) g13 (rowsPb (F := Ideal) c i arg2 harg2 arg3 harg3 arg4 harg4 arg5 harg5 arg6 harg6 arg7 harg7 arg8 harg8 arg9 harg9 arg10 harg10 arg11 harg11 arg12 harg12 arg13 harg13 arg14 harg14 X3 k0_t1_loop.trips)) y 4 (by omega) (by have : (y 0).val < 128 := (y 0).isLt; omega)
  have hs := out_stage c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (iota .tc S32x128 32 [1] iota_S32x128_d1_w32) f14 X2 X4 X5 X6 _ (arg3.view.read (Elt Ideal) X3) hX hfin rfl rfl 4 (by omega)
  simp only [trips3] at *
  refine ⟨?_, ?_, ?_, ?_, ?_, ?_, ?_⟩
  · funext y; exact read_good _ _ _ _ _ hg.1 (hh y).1
  · funext y; exact read_good _ _ _ _ _ hg.2.1 (hh y).2.1
  · funext y; exact read_good _ _ _ _ _ hg.2.2.1 (hh y).2.2.1
  · funext y; exact read_good _ _ _ _ _ hg.2.2.2.1 (hh y).2.2.2.1
  · funext y; exact read_good _ _ _ _ _ hg.2.2.2.2 (hh y).2.2.2.2
  · rw [h14]; funext y; exact read_good _ _ _ _ _ hs.1 (hs.2.2 y (by have : (y 0).val < 128 := (y 0).isLt; omega))
  · intro hc cb r
    rw [h12 hc]; exact pay8_apply _ _ _

end Cert.Proof.KernelIdeal

end
-- ==== Proof.RunValue.lean ====
/- The launch with values: what every point leaves in each result, the stage carried from the first point of a row block to the second. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.TileRel
public import Idealize.ShloMosaic.Lib.Pipeline.DatRel
public import Idealize.ShloMosaic.Lib.Pipeline.ArrRel

@[expose] public section

set_option maxRecDepth 8192

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

/-- The scale of row `r`, block `cb` of the tile at point `t`. -/
def sP (c : Dev nD) (t : Fin cfg0.N) (r : Fin 128) (cb : ℕ) : EReal :=
  sN (iblk m c 0 t) (iblk m c 1 t) (iblk m c 2 t) (iblk m c 3 t) (iblk m c 4 t) r cb

/-- The stage before point `k`: past the first point of a row block its first six lanes hold that tile's scales. -/
def StOK (c : Dev nD) (k : ℕ) (f : S128x128.Idx → EReal) : Prop :=
  ∀ t : Fin cfg0.N, t.val % 2 = 0 → k = t.val + 1 → ∀ (r : Fin 128) (cb : Fin 6), f (ix2 r ⟨cb.val, by omega⟩) = sP m c t r cb.val

/-- The scales a second point writes: the first tile's in the first six rows, its own in the last six. -/
def ScOK (c : Dev nD) (t : Fin cfg0.N) (X : S12x128.Idx → EReal) : Prop :=
  ∀ t' : Fin cfg0.N, t.val % 2 = 1 → t'.val + 1 = t.val → ∀ (r : Fin 128) (cb : Fin 6),
    X (ix2 ⟨cb.val, by omega⟩ r) = sP m c t' r cb.val ∧ X (ix2 ⟨6 + cb.val, by omega⟩ r) = sP m c t r cb.val

/-- What a point leaves in each result's window. -/
def Rl (c : Dev nD) (w : Fin cfg0.W) (t : Fin cfg0.N) : ((cfg0.win w).block.Idx → Elt Ideal (cfg0.win w).elt) → Prop :=
  match w with
  | ⟨5, _⟩ => fun X => (show S128x768.Idx → EReal from X) = nT (iblk m c 0 t) (iblk m c 1 t) (iblk m c 2 t) (iblk m c 3 t) (iblk m c 4 t)
  | ⟨6, _⟩ => fun X => (show S128x768.Idx → EReal from X) = mT (iblk m c 0 t) (iblk m c 1 t) (iblk m c 3 t)
  | ⟨7, _⟩ => fun X => (show S128x768.Idx → EReal from X) = vT (iblk m c 0 t) (iblk m c 1 t) (iblk m c 4 t)
  | ⟨8, _⟩ => fun X => (show S128x768.Idx → EReal from X) = uT (iblk m c 0 t) (iblk m c 1 t) (iblk m c 2 t) (iblk m c 3 t) (iblk m c 4 t)
  | ⟨9, _⟩ => fun X => (show S128x768.Idx → EReal from X) = cT (iblk m c 0 t) (iblk m c 1 t) (iblk m c 2 t) (iblk m c 3 t) (iblk m c 4 t)
  | ⟨10, _⟩ => fun X => ScOK m c t X
  | _ => fun _ => True

/-- The windows whose contents are held to `Rl`: the results. -/
def fgt : Fin cfg0.W → Bool := fun w => decide (5 ≤ w.val)

/-- The invariant: the two scratch buffers, the stage at contents that meet `StOK`, and the generator's register. -/
def inv (c : Dev nD) (k : ℕ) : sProp 𝕄 :=
  iprop(((∃ f : Buf (Elt Ideal) ((c : Thread nD τ).loc cc0_scratch0), ((c : Thread nD τ).loc cc0_scratch0) ↦{fullShare} f) ∗ (∃ f : Buf (Elt Ideal) ((c : Thread nD τ).loc cc0_scratch1), ⌜StOK m c k f⌝ ∗ ((c : Thread nD τ).loc cc0_scratch1) ↦{fullShare} f)) ∗ ∃ r, prngReg c r)

/-- The proof data: each input's block in place, the results held to `Rl`, the stage tracked. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨w + 5, h⟩ => Pipeline.Dat.unnamed (cfg := cfg0) ⟨w + 5, h⟩ t
  Φ k := inv m c k.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ X, ⌜((dats m 0 c).toRRel fgt (Rl m c)).Finds 5 t X⌝ ∗ owns (c : Thread nD τ) (st0_5 t) fullShare X) ∗ (∃ X, ⌜((dats m 0 c).toRRel fgt (Rl m c)).Finds 6 t X⌝ ∗ owns (c : Thread nD τ) (st0_6 t) fullShare X) ∗ (∃ X, ⌜((dats m 0 c).toRRel fgt (Rl m c)).Finds 7 t X⌝ ∗ owns (c : Thread nD τ) (st0_7 t) fullShare X) ∗ (∃ X, ⌜((dats m 0 c).toRRel fgt (Rl m c)).Finds 8 t X⌝ ∗ owns (c : Thread nD τ) (st0_8 t) fullShare X) ∗ (∃ X, ⌜((dats m 0 c).toRRel fgt (Rl m c)).Finds 9 t X⌝ ∗ owns (c : Thread nD τ) (st0_9 t) fullShare X) ∗ (∃ X, ⌜((dats m 0 c).toRRel fgt (Rl m c)).Finds 10 t X⌝ ∗ owns (c : Thread nD τ) (st0_10 t) fullShare X))
/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ (∃ X, ⌜Rl m c 5 t X⌝ ∗ owns (c : Thread nD τ) (st0_5 t) fullShare X) ∗ (∃ X, ⌜Rl m c 6 t X⌝ ∗ owns (c : Thread nD τ) (st0_6 t) fullShare X) ∗ (∃ X, ⌜Rl m c 7 t X⌝ ∗ owns (c : Thread nD τ) (st0_7 t) fullShare X) ∗ (∃ X, ⌜Rl m c 8 t X⌝ ∗ owns (c : Thread nD τ) (st0_8 t) fullShare X) ∗ (∃ X, ⌜Rl m c 9 t X⌝ ∗ owns (c : Thread nD τ) (st0_9 t) fullShare X) ∗ (∃ X, ⌜Rl m c 10 t X⌝ ∗ owns (c : Thread nD τ) (st0_10 t) fullShare X))

/-- The class's invariant: the two scratch buffers at some contents, and the generator's register. -/
theorem ΦA_eq (c : Dev nD) : (Pipeline.ΦA spec0 c : sProp 𝕄)
    = iprop(((∃ f : Buf (Elt Ideal) ((c : Thread nD τ).loc cc0_scratch0), ((c : Thread nD τ).loc cc0_scratch0) ↦{fullShare} f) ∗ (∃ f : Buf (Elt Ideal) ((c : Thread nD τ).loc cc0_scratch1), ((c : Thread nD τ).loc cc0_scratch1) ↦{fullShare} f)) ∗ ∃ r, prngReg c r) := by
  unfold Pipeline.ΦA; rw [scopedRest0_eq]

/-- The second coordinate of a point. -/
theorem coord1 : ∀ t : Fin cfg0.N, (grid0.coords t 1).val = t.val % 2 := by decide
theorem coord0 : ∀ t : Fin cfg0.N, (grid0.coords t 0).val = t.val / 2 := by decide
theorem cond_odd : ∀ t : Fin cfg0.N, t.val % 2 = 1 → k0_cond1 (grid0.coords t) = 1#1 := by decide

theorem stOK_next (c : Dev nD) (t : Fin cfg0.N) (f e14 : S128x128.Idx → EReal)
    (h : e14 = stageT (grid0.coords t 1).val (iblk m c 0 t) (iblk m c 1 t) (iblk m c 2 t) (iblk m c 3 t) (iblk m c 4 t) f) : StOK m c (t.val + 1) e14 := by
  intro t' h0 ht r cb
  obtain rfl : t = t' := Fin.ext (by omega)
  have h1 := coord1 t
  have hc := cb.isLt
  rw [h]
  unfold stageT sP
  refine (if_pos ?_).trans ?_
  · show 6 * (grid0.coords t 1).val ≤ cb.val ∧ cb.val < 6 * (grid0.coords t 1).val + 6
    omega
  · show sN _ _ _ _ _ r (cb.val - 6 * (grid0.coords t 1).val) = _
    rw [show cb.val - 6 * (grid0.coords t 1).val = cb.val by omega]

theorem scOK_of (c : Dev nD) (t : Fin cfg0.N) (f e14 : S128x128.Idx → EReal) (e12 : S12x128.Idx → EReal) (hf : StOK m c t.val f)
    (h : e14 = stageT (grid0.coords t 1).val (iblk m c 0 t) (iblk m c 1 t) (iblk m c 2 t) (iblk m c 3 t) (iblk m c 4 t) f)
    (h12 : k0_cond1 (grid0.coords t) = 1#1 → ∀ (cb : Fin 12) (r : Fin 128), e12 (ix2 cb r) = e14 (ix2 r ⟨cb.val, by omega⟩)) : ScOK m c t e12 := by
  intro t' h1 ht r cb
  have hk := coord1 t
  have hc := cb.isLt
  have h12 := h12 (cond_odd t h1)
  constructor
  · rw [h12, h, ← hf t' (by omega) ht.symm r cb]
    unfold stageT
    refine (if_neg ?_).trans rfl
    show ¬ (6 * (grid0.coords t 1).val ≤ cb.val ∧ cb.val < 6 * (grid0.coords t 1).val + 6)
    omega
  · rw [h12, h]
    unfold stageT sP
    refine (if_pos ?_).trans ?_
    · show 6 * (grid0.coords t 1).val ≤ 6 + cb.val ∧ 6 + cb.val < 6 * (grid0.coords t 1).val + 6
      omega
    · show sN _ _ _ _ _ r (6 + cb.val - 6 * (grid0.coords t 1).val) = _
      rw [show 6 + cb.val - 6 * (grid0.coords t 1).val = cb.val by omega]

variable (hfin : ∀ (c : Dev nD) (t : Fin cfg0.N) (y : S6x64x128.Idx), (show S6x64x128.Idx → EReal from iblk m c 1 t) y ≠ ⊤ ∧ (show S6x64x128.Idx → EReal from iblk m c 1 t) y ≠ ⊥)

include hfin in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = inv m c (t.val + 1) from rfl, show (dats m 0 c).Φ t.castSucc = inv m c t.val from rfl,
    show (dats m 0 c).owesAt () t.succ = (dats m 0 c).owesAt () t.castSucc from rfl,
    after0_0, after0_1, after0_2, after0_3, after0_4]
  unfold inv
  iintro ⟨⟨⟨⟨%g13, G13⟩, ⟨%g14, %hg14, G14⟩⟩, Hr⟩, Ho, ⟨%d0, H0⟩, ⟨%d1, H1⟩, ⟨%d2, H2⟩, ⟨%d3, H3⟩, ⟨%d4, H4⟩, ⟨%d5, -, H5⟩, ⟨%d6, -, H6⟩, ⟨%d7, -, H7⟩, ⟨%d8, -, H8⟩, ⟨%d9, -, H9⟩, ⟨%d10, -, H10⟩⟩
  iapply (sound_kernelV (F := Ideal) c _ _ _ _ _ _ _ _ _ _ _ _ _ _ _ _ _ _ _ _ _ _ _ _ _ _ _ (iblk m c 0 t) (iblk m c 1 t) (iblk m c 2 t) (iblk m c 3 t) (iblk m c 4 t) g14 _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [G13]; · iexists g13; irw [owns_whole (c : Thread nD τ) cc0_scratch0 fullShare g13]; iexact G13
  isplitl [G14]; · irw [owns_whole (c : Thread nD τ) cc0_scratch1 fullShare g14]; iexact G14
  iintro ⟨H0, H1, H2, H3, H4, ⟨%e5, %e6, %e7, %e8, %e9, %e10, %e14, %hrel, H5, H6, H7, H8, H9, H10, G14⟩, ⟨%e13, G13⟩⟩
  have hl := leaves6_of_rel c _ _ _ _ _ _ _ _ _ _ _ _ _ _ _ _ _ _ _ _ _ _ _ _ _ _ _ _ _ _ _ _ _ _ _ _ _ _ _ _ (hfin c t) hrel
  isplitl [G13 G14 Hr]
  · isplitl [G13 G14]
    · isplitl [G13]
      · iexists e13; irw [← owns_whole (c : Thread nD τ) cc0_scratch0 fullShare e13]; iexact G13
      · iexists e14; isplitr; · ipureintro; exact stOK_next m c t g14 e14 hl.stage
        irw [← owns_whole (c : Thread nD τ) cc0_scratch1 fullShare e14]; iexact G14
    · iexact Hr
  isplitl [Ho]; · iexact Ho
  isplitl [H0]; · iexact H0
  isplitl [H1]; · iexact H1
  isplitl [H2]; · iexact H2
  isplitl [H3]; · iexact H3
  isplitl [H4]; · iexact H4
  isplitl [H5]
  · iexists e5; isplitr; · ipureintro; exact hl.new
    iexact H5
  isplitl [H6]
  · iexists e6; isplitr; · ipureintro; exact hl.mom
    iexact H6
  isplitl [H7]
  · iexists e7; isplitr; · ipureintro; exact hl.vel
    iexact H7
  isplitl [H8]
  · iexists e8; isplitr; · ipureintro; exact hl.upd
    iexact H8
  isplitl [H9]
  · iexists e9; isplitr; · ipureintro; exact hl.code
    iexact H9
  iexists e10; isplitr; · ipureintro; exact scOK_of m c t g14 e14 e10 hg14 hl.stage hl.scale
  iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

include hfin in
theorem body_obligation (c : Dev nD) : Pipeline.BodyObligationRel (dats m 0 c) (defs₀ (F := Ideal)) Variants.none () Set.univ fgt (Rl m c) := fun t => by
  rw [bigSep_W0, bigSep_W0, defs₀_row]
  exact triple_restated (sound_body m hfin c t) rfl .rfl fun _ => .rfl

include hfin in
set_option backward.isDefEq.respectTransparency.types false in
set_option maxHeartbeats 800000 in
/-- The launch: the results as `Rl` says, every array of an input as it was, the counters at zero. -/
theorem run_main : θ_run defs (onTc (τ := τ) (main (F := Ideal))) (s₀ m ρ)
    (fun r => Pipeline.RDat.FramePost cfg0 (fun c => (dats m 0 c).toRRel fgt (Rl m c)) (V m) r ∧ r.2.sem = fun _ => 0) :=
  Pipeline.RDat.θ_run_frame_track (Q' := _) cfgs (0 : Fin 1) launch0 defs₀ Variants.none (fun c => (dats m 0 c).toRRel fgt (Rl m c)) m ρ main
    (hbody := fun c => (body_obligation m hfin c).toRRel) (hshare := fun c => (dats m 0 c).share_full fun _ => rfl)
    (howed := fun _ _ => rfl) (V := V m) (hmain := hmain m Variants.none) (hA := A_eq m)
    (hin := fun c => by
      show (Pipeline.ΦA spec0 c : sProp 𝕄) ⊢ inv m c 0
      rw [ΦA_eq]; unfold inv
      iintro ⟨⟨⟨%g13, G13⟩, ⟨%g14, G14⟩⟩, Hr⟩
      isplitl [G13 G14]
      · isplitl [G13]; · iexists g13; iexact G13
        iexists g14; isplitr; · ipureintro; intro t _ h; omega
        iexact G14
      · iexact Hr)
    (hout := fun c => by
      show inv m c _ ⊢ (Pipeline.ΦA spec0 c : sProp 𝕄)
      rw [ΦA_eq]; unfold inv
      iintro ⟨⟨⟨%g13, G13⟩, ⟨%g14, -, G14⟩⟩, Hr⟩
      isplitl [G13 G14]
      · isplitl [G13]; · iexists g13; iexact G13
        iexists g14; iexact G14
      · iexact Hr)

end Cert.Proof.KernelIdeal.Val

end
-- ==== Proof.Spec.lean ====
/- The step over whole arrays, and each tile of the kernel as the part of it that the tile covers. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.RunValue
public import Idealize.ShloMosaic.Lib.Pipeline.ValueKit

@[expose] public section

set_option maxRecDepth 8192

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

/-! ## The step over whole arrays -/

section Spec

variable (a0 : S64x3840x1536.Idx → EReal) (a1 : S64x3840x12.Idx → EReal) (a2 a3 a4 : S3840x1536.Idx → EReal)

/-- The gradient at an element. -/
def gA (r : Fin 3840) (q : Fin 1536) : EReal :=
  grad (fun p => a1 (ix3 p r ⟨q.val / 128, by omega⟩)) (fun p => a0 (ix3 p r q))
def mA (r : Fin 3840) (q : Fin 1536) : EReal := mom (gA a0 a1 r q) (a3 (ix2 r q))
def vA (r : Fin 3840) (q : Fin 1536) : EReal := vel (gA a0 a1 r q) (a4 (ix2 r q))
def uA (r : Fin 3840) (q : Fin 1536) : EReal := upd (gA a0 a1 r q) (a2 (ix2 r q)) (a3 (ix2 r q)) (a4 (ix2 r q))
def nA (r : Fin 3840) (q : Fin 1536) : EReal := new (gA a0 a1 r q) (a2 (ix2 r q)) (a3 (ix2 r q)) (a4 (ix2 r q))
/-- The largest magnitude of a row of a block, over the codes' largest. -/
def topA (r : Fin 3840) (cb : Fin 12) : EReal := top fun l => nA a0 a1 a2 a3 a4 r ⟨128 * cb.val + l.val, by omega⟩
def cA (r : Fin 3840) (q : Fin 1536) : EReal := code (nA a0 a1 a2 a3 a4 r q) (topA a0 a1 a2 a3 a4 r ⟨q.val / 128, by omega⟩)
def sA (r : Fin 3840) (cb : Fin 12) : EReal := Quant.scale (topA a0 a1 a2 a3 a4 r cb)

end Spec

local notation "𝕄" => MT nD τ sig Unit (Elt Ideal) ℕ (UR sig nD τ) ℕ

variable (m : (ℓ : Loc nD τ sig) → Buf (Elt Ideal) ℓ) (ρ : Dev nD → PrngReg)

theorem idx0 : ∀ t : Fin cfg0.N, win0_0.index t = ![0, (grid0.coords t 0).val, (grid0.coords t 1).val] := (by decide +kernel : ∀ t : Fin grid0.N, _)
theorem idx1 : ∀ t : Fin cfg0.N, win0_1.index t = ![(grid0.coords t 1).val, 0, (grid0.coords t 0).val] := (by decide +kernel : ∀ t : Fin grid0.N, _)
theorem idx2 : ∀ t : Fin cfg0.N, win0_2.index t = ![(grid0.coords t 0).val, (grid0.coords t 1).val] := (by decide +kernel : ∀ t : Fin grid0.N, _)
theorem idx3 : ∀ t : Fin cfg0.N, win0_3.index t = ![(grid0.coords t 0).val, (grid0.coords t 1).val] := (by decide +kernel : ∀ t : Fin grid0.N, _)
theorem idx4 : ∀ t : Fin cfg0.N, win0_4.index t = ![(grid0.coords t 0).val, (grid0.coords t 1).val] := (by decide +kernel : ∀ t : Fin grid0.N, _)
theorem idx5 : ∀ t : Fin cfg0.N, win0_5.index t = ![(grid0.coords t 0).val, (grid0.coords t 1).val] := (by decide +kernel : ∀ t : Fin grid0.N, _)
theorem idx6 : ∀ t : Fin cfg0.N, win0_6.index t = ![(grid0.coords t 0).val, (grid0.coords t 1).val] := (by decide +kernel : ∀ t : Fin grid0.N, _)
theorem idx7 : ∀ t : Fin cfg0.N, win0_7.index t = ![(grid0.coords t 0).val, (grid0.coords t 1).val] := (by decide +kernel : ∀ t : Fin grid0.N, _)
theorem idx8 : ∀ t : Fin cfg0.N, win0_8.index t = ![(grid0.coords t 0).val, (grid0.coords t 1).val] := (by decide +kernel : ∀ t : Fin grid0.N, _)
theorem idx9 : ∀ t : Fin cfg0.N, win0_9.index t = ![(grid0.coords t 0).val, (grid0.coords t 1).val] := (by decide +kernel : ∀ t : Fin grid0.N, _)
theorem idx10 : ∀ t : Fin cfg0.N, win0_10.index t = ![0, (grid0.coords t 0).val] := (by decide +kernel : ∀ t : Fin grid0.N, _)

/-- The row and the column that an element of point `t`'s tile has in the arrays. -/
def rowP (t : Fin cfg0.N) (r : Fin 128) : Fin 3840 := ⟨128 * (t.val / 2) + r.val, by have : t.val < 60 := t.isLt; omega⟩
def colP (t : Fin cfg0.N) (q : Fin 768) : Fin 1536 := ⟨768 * (t.val % 2) + q.val, by omega⟩

variable (c : Dev nD)

theorem rd0 (t : Fin cfg0.N) (p : Fin 64) (r : Fin 128) (q : Fin 768) :
    (show S64x128x768.Idx → EReal from iblk m c 0 t) (ix3 p r q) = (show S64x3840x1536.Idx → EReal from m ((c : Thread nD τ).loc main_arg0)) (ix3 p (rowP t r) (colP t q)) := by
  have h0 := coord0 t
  have h1 := coord1 t
  rw [← V_main_arg0 m c]
  show V m c main_arg0 ((win0_0.blk t).view.emb (ix3 p r q)) = V m c main_arg0 _
  refine congrArg _ ?_
  unfold rowP colP
  blk_ext [idx0 t]

theorem V_v0 : (show S12x64x3840.Idx → EReal from V m c main_v0) = transpose S12x64x3840 [2, 0, 1] (show S64x3840x12.Idx → EReal from m ((c : Thread nD τ).loc main_arg1)) transposes_S64x3840x12_S12x64x3840_2_0_1 := by
  first | rfl | entry_read

theorem rd1 (t : Fin cfg0.N) (b : Fin 6) (p : Fin 64) (r : Fin 128) :
    (show S6x64x128.Idx → EReal from iblk m c 1 t) (ix3 b p r) = (show S64x3840x12.Idx → EReal from m ((c : Thread nD τ).loc main_arg1)) (ix3 p (rowP t r) ⟨6 * (t.val % 2) + b.val, by omega⟩) := by
  have h0 := coord0 t
  have h1 := coord1 t
  have e : (win0_1.blk t).view.emb (ix3 b p r) = ix3 (⟨6 * (t.val % 2) + b.val, by omega⟩ : Fin 12) p (rowP t r) := by
    unfold rowP
    blk_ext [idx1 t]
  show (show S12x64x3840.Idx → EReal from V m c main_v0) ((win0_1.blk t).view.emb (ix3 b p r)) = _
  rw [e, V_v0]
  pointwise

theorem rd2 (t : Fin cfg0.N) (r : Fin 128) (q : Fin 768) :
    (show S128x768.Idx → EReal from iblk m c 2 t) (ix2 r q) = (show S3840x1536.Idx → EReal from m ((c : Thread nD τ).loc main_arg2)) (ix2 (rowP t r) (colP t q)) := by
  have h0 := coord0 t
  have h1 := coord1 t
  rw [← V_main_arg2 m c]
  show V m c main_arg2 ((win0_2.blk t).view.emb (ix2 r q)) = V m c main_arg2 _
  refine congrArg _ ?_
  unfold rowP colP
  blk_ext [idx2 t]

theorem rd3 (t : Fin cfg0.N) (r : Fin 128) (q : Fin 768) :
    (show S128x768.Idx → EReal from iblk m c 3 t) (ix2 r q) = (show S3840x1536.Idx → EReal from m ((c : Thread nD τ).loc main_arg3)) (ix2 (rowP t r) (colP t q)) := by
  have h0 := coord0 t
  have h1 := coord1 t
  rw [← V_main_arg3 m c]
  show V m c main_arg3 ((win0_3.blk t).view.emb (ix2 r q)) = V m c main_arg3 _
  refine congrArg _ ?_
  unfold rowP colP
  blk_ext [idx3 t]

theorem rd4 (t : Fin cfg0.N) (r : Fin 128) (q : Fin 768) :
    (show S128x768.Idx → EReal from iblk m c 4 t) (ix2 r q) = (show S3840x1536.Idx → EReal from m ((c : Thread nD τ).loc main_arg4)) (ix2 (rowP t r) (colP t q)) := by
  have h0 := coord0 t
  have h1 := coord1 t
  rw [← V_main_arg4 m c]
  show V m c main_arg4 ((win0_4.blk t).view.emb (ix2 r q)) = V m c main_arg4 _
  refine congrArg _ ?_
  unfold rowP colP
  blk_ext [idx4 t]

theorem g_tile (t : Fin cfg0.N) (r : Fin 128) (q : Fin 768) : gT (iblk m c 0 t) (iblk m c 1 t) (ix2 r q) = gA (m ((c : Thread nD τ).loc main_arg0)) (m ((c : Thread nD τ).loc main_arg1)) (rowP t r) (colP t q) := by
  unfold gT gA
  have e1 : (fun p : Fin 64 => (show S6x64x128.Idx → EReal from iblk m c 1 t) (ix3 (⟨q.val / 128, by omega⟩ : Fin 6) p r)) = fun p => (show S64x3840x12.Idx → EReal from m ((c : Thread nD τ).loc main_arg1)) (ix3 p (rowP t r) ⟨(colP t q).val / 128, by omega⟩) := by
    funext p
    rw [rd1]
    refine congrArg _ (congrArg (ix3 p (rowP t r)) (Fin.ext ?_))
    show 6 * (t.val % 2) + q.val / 128 = (768 * (t.val % 2) + q.val) / 128
    omega
  have e0 : (fun p : Fin 64 => (show S64x128x768.Idx → EReal from iblk m c 0 t) (ix3 p r q)) = fun p => (show S64x3840x1536.Idx → EReal from m ((c : Thread nD τ).loc main_arg0)) (ix3 p (rowP t r) (colP t q)) := by
    funext p; rw [rd0]
  exact congrArg₂ grad e1 e0

theorem m_tile (t : Fin cfg0.N) (r : Fin 128) (q : Fin 768) : mT (iblk m c 0 t) (iblk m c 1 t) (iblk m c 3 t) (ix2 r q) = mA (m ((c : Thread nD τ).loc main_arg0)) (m ((c : Thread nD τ).loc main_arg1)) (m ((c : Thread nD τ).loc main_arg3)) (rowP t r) (colP t q) :=
  congrArg₂ mom (g_tile m c t r q) (rd3 m c t r q)
theorem v_tile (t : Fin cfg0.N) (r : Fin 128) (q : Fin 768) : vT (iblk m c 0 t) (iblk m c 1 t) (iblk m c 4 t) (ix2 r q) = vA (m ((c : Thread nD τ).loc main_arg0)) (m ((c : Thread nD τ).loc main_arg1)) (m ((c : Thread nD τ).loc main_arg4)) (rowP t r) (colP t q) :=
  congrArg₂ vel (g_tile m c t r q) (rd4 m c t r q)
theorem u_tile (t : Fin cfg0.N) (r : Fin 128) (q : Fin 768) : uT (iblk m c 0 t) (iblk m c 1 t) (iblk m c 2 t) (iblk m c 3 t) (iblk m c 4 t) (ix2 r q) = uA (m ((c : Thread nD τ).loc main_arg0)) (m ((c : Thread nD τ).loc main_arg1)) (m ((c : Thread nD τ).loc main_arg2)) (m ((c : Thread nD τ).loc main_arg3)) (m ((c : Thread nD τ).loc main_arg4)) (rowP t r) (colP t q) := by
  unfold uT uA
  rw [g_tile m c t r q]
  exact congr (congr (congrArg _ (rd2 m c t r q)) (rd3 m c t r q)) (rd4 m c t r q)
theorem n_tile (t : Fin cfg0.N) (r : Fin 128) (q : Fin 768) : nT (iblk m c 0 t) (iblk m c 1 t) (iblk m c 2 t) (iblk m c 3 t) (iblk m c 4 t) (ix2 r q) = nA (m ((c : Thread nD τ).loc main_arg0)) (m ((c : Thread nD τ).loc main_arg1)) (m ((c : Thread nD τ).loc main_arg2)) (m ((c : Thread nD τ).loc main_arg3)) (m ((c : Thread nD τ).loc main_arg4)) (rowP t r) (colP t q) := by
  unfold nT nA
  rw [g_tile m c t r q]
  exact congr (congr (congrArg _ (rd2 m c t r q)) (rd3 m c t r q)) (rd4 m c t r q)
theorem top_tile (t : Fin cfg0.N) (r : Fin 128) (cb : Fin 6) : topT (iblk m c 0 t) (iblk m c 1 t) (iblk m c 2 t) (iblk m c 3 t) (iblk m c 4 t) r cb = topA (m ((c : Thread nD τ).loc main_arg0)) (m ((c : Thread nD τ).loc main_arg1)) (m ((c : Thread nD τ).loc main_arg2)) (m ((c : Thread nD τ).loc main_arg3)) (m ((c : Thread nD τ).loc main_arg4)) (rowP t r) ⟨6 * (t.val % 2) + cb.val, by omega⟩ := by
  unfold topT topA
  refine congrArg top ?_
  funext l
  rw [n_tile]
  refine congrArg _ (Fin.ext ?_)
  show 768 * (t.val % 2) + (128 * cb.val + l.val) = 128 * (6 * (t.val % 2) + cb.val) + l.val
  omega
theorem c_tile (t : Fin cfg0.N) (r : Fin 128) (q : Fin 768) : cT (iblk m c 0 t) (iblk m c 1 t) (iblk m c 2 t) (iblk m c 3 t) (iblk m c 4 t) (ix2 r q) = cA (m ((c : Thread nD τ).loc main_arg0)) (m ((c : Thread nD τ).loc main_arg1)) (m ((c : Thread nD τ).loc main_arg2)) (m ((c : Thread nD τ).loc main_arg3)) (m ((c : Thread nD τ).loc main_arg4)) (rowP t r) (colP t q) := by
  unfold cT cA
  refine congrArg₂ code (n_tile m c t r q) ((top_tile m c t r _).trans (congrArg _ (Fin.ext ?_)))
  show 6 * (t.val % 2) + q.val / 128 = (768 * (t.val % 2) + q.val) / 128
  omega
theorem s_tile (t : Fin cfg0.N) (r : Fin 128) (cb : Fin 6) : sP m c t r cb.val = sA (m ((c : Thread nD τ).loc main_arg0)) (m ((c : Thread nD τ).loc main_arg1)) (m ((c : Thread nD τ).loc main_arg2)) (m ((c : Thread nD τ).loc main_arg3)) (m ((c : Thread nD τ).loc main_arg4)) (rowP t r) ⟨6 * (t.val % 2) + cb.val, by omega⟩ := by
  unfold sP sN
  refine (dif_pos cb.isLt).trans ?_
  exact congrArg Quant.scale (top_tile m c t r cb)

end Cert.Proof.KernelIdeal.Val

end
-- ==== Proof.Final.lean ====
/- The arrays after the run of `KernelIdeal`: each result is the step over the whole argument arrays. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Spec
public import Idealize.ShloMosaic.Lib.Pipeline.ValueKit

@[expose] public section

set_option maxRecDepth 8192

noncomputable section

namespace Cert.Proof.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable (m : (ℓ : Loc nD τ sig) → Buf (Elt Ideal) ℓ) (ρ : Dev nD → PrngReg) (c : Dev nD)

theorem eta2 (z : S128x768.Idx) : ∃ (r : Fin 128) (q : Fin 768), z = ix2 r q :=
  ⟨z 0, z 1, (funext fun a => match a with | ⟨0, _⟩ => rfl | ⟨1, _⟩ => rfl)⟩
theorem eta12 (z : S12x128.Idx) : ∃ (b : Fin 12) (r : Fin 128), z = ix2 b r :=
  ⟨z 0, z 1, (funext fun a => match a with | ⟨0, _⟩ => rfl | ⟨1, _⟩ => rfl)⟩

variable (after : (w' : Fin cfg0.W) → Fin cfg0.N → (cfg0.win w').block.Idx → Elt Ideal (cfg0.win w').elt)
  (hL : ∀ (w : Fin cfg0.W) (u : Fin cfg0.N), (cfg0.win w).flush u = true → ((dats m 0 c).toRRel fgt (Rl m c)).Leaves w u (after w u))

theorem emb5 (t : Fin cfg0.N) (r : Fin 128) (q : Fin 768) : (show S3840x1536.Idx from (win0_5.blk t).view.emb (ix2 r q)) = ix2 (rowP t r) (colP t q) := by
  have h0 := coord0 t
  have h1 := coord1 t
  unfold rowP colP
  blk_ext [idx5 t]

include hL in
theorem fin5 : (((dats m 0 c).toRRel fgt (Rl m c)).withAfter after).arrAt 5 cfg0.N = (fun y : S3840x1536.Idx => nA (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)) := by
  refine Dat.arrAt_eq_of_covers _ 5 _ (by decide +kernel) fun t hf y => ?_
  have hR : Rl m c 5 t (after 5 t) := (dats m 0 c).toRRel_leaves rfl (hL 5 t hf)
  obtain ⟨r, q, rfl⟩ := eta2 y
  show (show S128x768.Idx → EReal from after 5 t) (ix2 r q) = (fun y : S3840x1536.Idx => nA (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)) ((win0_5.blk t).view.emb (ix2 r q))
  refine (congrFun hR (ix2 r q)).trans ?_
  refine (n_tile m c t r q).trans ?_
  exact (congrArg (fun y : S3840x1536.Idx => nA (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)) (emb5 t r q)).symm

theorem emb6 (t : Fin cfg0.N) (r : Fin 128) (q : Fin 768) : (show S3840x1536.Idx from (win0_6.blk t).view.emb (ix2 r q)) = ix2 (rowP t r) (colP t q) := by
  have h0 := coord0 t
  have h1 := coord1 t
  unfold rowP colP
  blk_ext [idx6 t]

include hL in
theorem fin6 : (((dats m 0 c).toRRel fgt (Rl m c)).withAfter after).arrAt 6 cfg0.N = (fun y : S3840x1536.Idx => mA (m ((c : Thread nD τ).loc main_arg0)) (m ((c : Thread nD τ).loc main_arg1)) (m ((c : Thread nD τ).loc main_arg3)) (y 0) (y 1)) := by
  refine Dat.arrAt_eq_of_covers _ 6 _ (by decide +kernel) fun t hf y => ?_
  have hR : Rl m c 6 t (after 6 t) := (dats m 0 c).toRRel_leaves rfl (hL 6 t hf)
  obtain ⟨r, q, rfl⟩ := eta2 y
  show (show S128x768.Idx → EReal from after 6 t) (ix2 r q) = (fun y : S3840x1536.Idx => mA (m ((c : Thread nD τ).loc main_arg0)) (m ((c : Thread nD τ).loc main_arg1)) (m ((c : Thread nD τ).loc main_arg3)) (y 0) (y 1)) ((win0_6.blk t).view.emb (ix2 r q))
  refine (congrFun hR (ix2 r q)).trans ?_
  refine (m_tile m c t r q).trans ?_
  exact (congrArg (fun y : S3840x1536.Idx => mA (m ((c : Thread nD τ).loc main_arg0)) (m ((c : Thread nD τ).loc main_arg1)) (m ((c : Thread nD τ).loc main_arg3)) (y 0) (y 1)) (emb6 t r q)).symm

theorem emb7 (t : Fin cfg0.N) (r : Fin 128) (q : Fin 768) : (show S3840x1536.Idx from (win0_7.blk t).view.emb (ix2 r q)) = ix2 (rowP t r) (colP t q) := by
  have h0 := coord0 t
  have h1 := coord1 t
  unfold rowP colP
  blk_ext [idx7 t]

include hL in
theorem fin7 : (((dats m 0 c).toRRel fgt (Rl m c)).withAfter after).arrAt 7 cfg0.N = (fun y : S3840x1536.Idx => vA (m ((c : Thread nD τ).loc main_arg0)) (m ((c : Thread nD τ).loc main_arg1)) (m ((c : Thread nD τ).loc main_arg4)) (y 0) (y 1)) := by
  refine Dat.arrAt_eq_of_covers _ 7 _ (by decide +kernel) fun t hf y => ?_
  have hR : Rl m c 7 t (after 7 t) := (dats m 0 c).toRRel_leaves rfl (hL 7 t hf)
  obtain ⟨r, q, rfl⟩ := eta2 y
  show (show S128x768.Idx → EReal from after 7 t) (ix2 r q) = (fun y : S3840x1536.Idx => vA (m ((c : Thread nD τ).loc main_arg0)) (m ((c : Thread nD τ).loc main_arg1)) (m ((c : Thread nD τ).loc main_arg4)) (y 0) (y 1)) ((win0_7.blk t).view.emb (ix2 r q))
  refine (congrFun hR (ix2 r q)).trans ?_
  refine (v_tile m c t r q).trans ?_
  exact (congrArg (fun y : S3840x1536.Idx => vA (m ((c : Thread nD τ).loc main_arg0)) (m ((c : Thread nD τ).loc main_arg1)) (m ((c : Thread nD τ).loc main_arg4)) (y 0) (y 1)) (emb7 t r q)).symm

theorem emb8 (t : Fin cfg0.N) (r : Fin 128) (q : Fin 768) : (show S3840x1536.Idx from (win0_8.blk t).view.emb (ix2 r q)) = ix2 (rowP t r) (colP t q) := by
  have h0 := coord0 t
  have h1 := coord1 t
  unfold rowP colP
  blk_ext [idx8 t]

include hL in
theorem fin8 : (((dats m 0 c).toRRel fgt (Rl m c)).withAfter after).arrAt 8 cfg0.N = (fun y : S3840x1536.Idx => uA (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)) := by
  refine Dat.arrAt_eq_of_covers _ 8 _ (by decide +kernel) fun t hf y => ?_
  have hR : Rl m c 8 t (after 8 t) := (dats m 0 c).toRRel_leaves rfl (hL 8 t hf)
  obtain ⟨r, q, rfl⟩ := eta2 y
  show (show S128x768.Idx → EReal from after 8 t) (ix2 r q) = (fun y : S3840x1536.Idx => uA (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)) ((win0_8.blk t).view.emb (ix2 r q))
  refine (congrFun hR (ix2 r q)).trans ?_
  refine (u_tile m c t r q).trans ?_
  exact (congrArg (fun y : S3840x1536.Idx => uA (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)) (emb8 t r q)).symm

theorem emb9 (t : Fin cfg0.N) (r : Fin 128) (q : Fin 768) : (show S3840x1536.Idx from (win0_9.blk t).view.emb (ix2 r q)) = ix2 (rowP t r) (colP t q) := by
  have h0 := coord0 t
  have h1 := coord1 t
  unfold rowP colP
  blk_ext [idx9 t]

include hL in
theorem fin9 : (((dats m 0 c).toRRel fgt (Rl m c)).withAfter after).arrAt 9 cfg0.N = (fun y : S3840x1536.Idx => cA (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)) := by
  refine Dat.arrAt_eq_of_covers _ 9 _ (by decide +kernel) fun t hf y => ?_
  have hR : Rl m c 9 t (after 9 t) := (dats m 0 c).toRRel_leaves rfl (hL 9 t hf)
  obtain ⟨r, q, rfl⟩ := eta2 y
  show (show S128x768.Idx → EReal from after 9 t) (ix2 r q) = (fun y : S3840x1536.Idx => cA (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)) ((win0_9.blk t).view.emb (ix2 r q))
  refine (congrFun hR (ix2 r q)).trans ?_
  refine (c_tile m c t r q).trans ?_
  exact (congrArg (fun y : S3840x1536.Idx => cA (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)) (emb9 t r q)).symm

theorem emb10 (t : Fin cfg0.N) (b : Fin 12) (r : Fin 128) : (show S12x3840.Idx from (win0_10.blk t).view.emb (ix2 b r)) = ix2 b (rowP t r) := by
  have h0 := coord0 t
  unfold rowP
  blk_ext [idx10 t]

include hL in
theorem fin10 : (((dats m 0 c).toRRel fgt (Rl m c)).withAfter after).arrAt 10 cfg0.N = (fun y : S12x3840.Idx => sA (m ((c : Thread nD τ).loc main_arg0)) (m ((c : Thread nD τ).loc main_arg1)) (m ((c : Thread nD τ).loc main_arg2)) (m ((c : Thread nD τ).loc main_arg3)) (m ((c : Thread nD τ).loc main_arg4)) (y 1) (y 0)) := by
  refine Dat.arrAt_eq_of_covers _ 10 _ (by decide +kernel) fun t hf y => ?_
  have hR : ScOK m c t (after 10 t) := (dats m 0 c).toRRel_leaves rfl (hL 10 t hf)
  have ho : t.val % 2 = 1 := (flush0_10 t).1 hf
  obtain ⟨b, r, rfl⟩ := eta12 y
  show (show S12x128.Idx → EReal from after 10 t) (ix2 b r) = (fun y : S12x3840.Idx => sA (m ((c : Thread nD τ).loc main_arg0)) (m ((c : Thread nD τ).loc main_arg1)) (m ((c : Thread nD τ).loc main_arg2)) (m ((c : Thread nD τ).loc main_arg3)) (m ((c : Thread nD τ).loc main_arg4)) (y 1) (y 0)) ((win0_10.blk t).view.emb (ix2 b r))
  refine Eq.trans ?_ (congrArg (fun y : S12x3840.Idx => sA (m ((c : Thread nD τ).loc main_arg0)) (m ((c : Thread nD τ).loc main_arg1)) (m ((c : Thread nD τ).loc main_arg2)) (m ((c : Thread nD τ).loc main_arg3)) (m ((c : Thread nD τ).loc main_arg4)) (y 1) (y 0)) (emb10 t b r)).symm
  have ht : t.val < 60 := t.isLt
  by_cases hb : b.val < 6
  · have h := (hR ⟨t.val - 1, by show t.val - 1 < 60; omega⟩ ho (by dsimp only; omega) r ⟨b.val, hb⟩).1
    refine h.trans ((s_tile m c _ r ⟨b.val, hb⟩).trans ?_)
    refine congrArg₂ (sA (m ((c : Thread nD τ).loc main_arg0)) (m ((c : Thread nD τ).loc main_arg1)) (m ((c : Thread nD τ).loc main_arg2)) (m ((c : Thread nD τ).loc main_arg3)) (m ((c : Thread nD τ).loc main_arg4))) (Fin.ext ?_) (Fin.ext ?_)
    · show 128 * ((t.val - 1) / 2) + r.val = 128 * (t.val / 2) + r.val
      omega
    · show 6 * ((t.val - 1) % 2) + b.val = b.val
      omega
  · have hc : b.val - 6 < 6 := by omega
    have h := (hR ⟨t.val - 1, by show t.val - 1 < 60; omega⟩ ho (by dsimp only; omega) r ⟨b.val - 6, hc⟩).2
    have e : (⟨6 + (b.val - 6), by omega⟩ : Fin 12) = b := Fin.ext (by dsimp only; omega)
    refine (congrArg (fun b' : Fin 12 => (show S12x128.Idx → EReal from after 10 t) (ix2 b' r)) e).symm.trans (h.trans ((s_tile m c _ r ⟨b.val - 6, hc⟩).trans ?_))
    refine congrArg₂ (sA (m ((c : Thread nD τ).loc main_arg0)) (m ((c : Thread nD τ).loc main_arg1)) (m ((c : Thread nD τ).loc main_arg2)) (m ((c : Thread nD τ).loc main_arg3)) (m ((c : Thread nD τ).loc main_arg4))) rfl (Fin.ext ?_)
    show 6 * (t.val % 2) + (b.val - 6) = b.val
    omega

omit c after hL
variable (hfin : ∀ (c : Dev nD) (t : Fin cfg0.N) (y : S6x64x128.Idx), (show S6x64x128.Idx → EReal from iblk m c 1 t) y ≠ ⊤ ∧ (show S6x64x128.Idx → EReal from iblk m c 1 t) y ≠ ⊥)

include hfin in
/-- The run: every result is the step over the whole arrays, every argument as it was. -/
theorem run : θ_run defs (onTc (τ := τ) (main (F := Ideal))) ⟨m, fun _ => 0, ρ⟩ (fun r => ∀ c : Dev nD,
      r.2.mem ((c.tc : Thread nD τ).loc main_v1_0) = (fun y : S3840x1536.Idx => nA (m ((c : Thread nD τ).loc main_arg0)) (m ((c : Thread nD τ).loc main_arg1)) (m ((c : Thread nD τ).loc main_arg2)) (m ((c : Thread nD τ).loc main_arg3)) (m ((c : Thread nD τ).loc main_arg4)) (y 0) (y 1))
      ∧ r.2.mem ((c.tc : Thread nD τ).loc main_v1_1) = (fun y : S3840x1536.Idx => mA (m ((c : Thread nD τ).loc main_arg0)) (m ((c : Thread nD τ).loc main_arg1)) (m ((c : Thread nD τ).loc main_arg3)) (y 0) (y 1))
      ∧ r.2.mem ((c.tc : Thread nD τ).loc main_v1_2) = (fun y : S3840x1536.Idx => vA (m ((c : Thread nD τ).loc main_arg0)) (m ((c : Thread nD τ).loc main_arg1)) (m ((c : Thread nD τ).loc main_arg4)) (y 0) (y 1))
      ∧ r.2.mem ((c.tc : Thread nD τ).loc main_v1_3) = (fun y : S3840x1536.Idx => uA (m ((c : Thread nD τ).loc main_arg0)) (m ((c : Thread nD τ).loc main_arg1)) (m ((c : Thread nD τ).loc main_arg2)) (m ((c : Thread nD τ).loc main_arg3)) (m ((c : Thread nD τ).loc main_arg4)) (y 0) (y 1))
      ∧ r.2.mem ((c.tc : Thread nD τ).loc main_v1_4) = (fun y : S3840x1536.Idx => cA (m ((c : Thread nD τ).loc main_arg0)) (m ((c : Thread nD τ).loc main_arg1)) (m ((c : Thread nD τ).loc main_arg2)) (m ((c : Thread nD τ).loc main_arg3)) (m ((c : Thread nD τ).loc main_arg4)) (y 0) (y 1))
      ∧ r.2.mem ((c.tc : Thread nD τ).loc main_v1_5) = (fun y : S12x3840.Idx => sA (m ((c : Thread nD τ).loc main_arg0)) (m ((c : Thread nD τ).loc main_arg1)) (m ((c : Thread nD τ).loc main_arg2)) (m ((c : Thread nD τ).loc main_arg3)) (m ((c : Thread nD τ).loc main_arg4)) (y 1) (y 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨after, hL, hA⟩ := Pipeline.RDat.FramePost.exists_exact h.1 c
    exact ⟨(hA 5).trans (fin5 m c after hL), (hA 6).trans (fin6 m c after hL), (hA 7).trans (fin7 m c after hL), (hA 8).trans (fin8 m c after hL),
      (hA 9).trans (fin9 m c after hL), (hA 10).trans (fin10 m c after hL),
      (Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c))⟩) (run_main m ρ hfin)

end Cert.Proof.KernelIdeal.Val

end
-- ==== Proof.Ref.lean ====
/- The reference at an element: what it computes there, in the words of the step over whole arrays. -/
module

public import proofs.«01_k».proof.Proof.Gen.ReferenceIdeal.Value
public import proofs.«01_k».proof.Proof.Spec
public import Idealize.ShloMosaic.Lib.Pointwise

@[expose] public section

set_option maxRecDepth 8192

noncomputable section

namespace Cert.Proof.ReferenceIdeal

open Cert.ReferenceIdeal Cert.ReferenceIdeal.Gen Cert.Proof.KernelIdeal Cert.Proof.KernelIdeal.Val
open Idealize.ShloMosaic Idealize.ShloMosaic.TcCoe Idealize.ShloMosaic.Tactic

variable (a0 : S64x3840x1536.Idx → EReal) (a1 : S64x3840x12.Idx → EReal) (a2 a3 a4 : S3840x1536.Idx → EReal)

theorem div_64 (s : EReal) : Ideal.div s (Ideal.ofBits .f32 0x42800000#32) = s * Ideal.ofBits .f32 0x3C800000#32 := by
  rw [show Ideal.ofBits .f32 0x42800000#32 = (((2 : ℝ) ^ (6 : ℤ) : ℝ) : EReal) from Quant.ofBits_pow 133 (by omega) (by omega),
    show Ideal.ofBits .f32 0x3C800000#32 = (((2 : ℝ) ^ (-6 : ℤ) : ℝ) : EReal) from Quant.ofBits_pow 121 (by omega) (by omega)]
  unfold Ideal.div
  rw [if_neg (by norm_num), ← EReal.coe_inv]
  norm_num

theorem pay3_apply (r : Fin 3840) (q : Fin 1536) : k0_pay3 (F := Ideal) a0 a1 (ix2 r q) = gA a0 a1 r q := by
  unfold k0_pay3 gA grad
  dsimp only
  pointwise
  exact (div_64 _).trans (congrArg (· * _) (Finset.sum_congr rfl fun p _ => mul_comm _ _))

theorem pay4_apply (r : Fin 3840) (q : Fin 1536) : k0_pay4 (F := Ideal) a0 a1 a3 (ix2 r q) = mA a0 a1 a3 r q := by
  unfold mA; rw [← pay3_apply]; rfl
theorem pay5_apply (r : Fin 3840) (q : Fin 1536) : k0_pay5 (F := Ideal) a0 a1 a4 (ix2 r q) = vA a0 a1 a4 r q := by
  unfold vA; rw [← pay3_apply]; rfl
theorem pay8_apply (r : Fin 3840) (q : Fin 1536) : k0_pay8 (F := Ideal) (k0_pay6 a0 a1 a2 a3 a4) k0_pay7 (ix2 r q) = uA a0 a1 a2 a3 a4 r q := by
  unfold uA; rw [← pay3_apply]; rfl
theorem pay9_apply (r : Fin 3840) (q : Fin 1536) : k0_pay9 (F := Ideal) a2 (k0_pay6 a0 a1 a2 a3 a4) k0_pay7 (ix2 r q) = nA a0 a1 a2 a3 a4 r q := by
  unfold nA; rw [← pay3_apply]; rfl

/-- The blocks of 128 columns, cut out of the columns. -/
theorem pay10_gen (v35 v36 : FVec Ideal S3840x1536 .f32) (r : Fin 3840) (cb : Fin 12) (l : Fin 128) :
    k0_pay10 (F := Ideal) a2 v35 v36 (ix3 r cb l) = k0_pay9 (F := Ideal) a2 v35 v36 (ix2 r ⟨128 * cb.val + l.val, by omega⟩) := by
  unfold k0_pay10
  generalize k0_pay9 (F := Ideal) a2 v35 v36 = y
  pointwise
  exact congrArg (fun q => y (ix2 r q)) (Fin.ext (by dsimp only; omega))

/-- The exponent of a count. -/
def expo (n : ℕ) : EReal := if n = 0 then 0 else (((n : ℝ) - 126 : ℝ) : EReal)

theorem ofBits_126 : Ideal.ofBits .f32 0x42FC0000#32 = ((126 : ℝ) : EReal) := by
  simp [Ideal.ofBits, Ideal.ieee, -EReal.coe_mul]; norm_num

/-- Two to the exponent is the scale. -/
theorem exp_scale (y : EReal) : FloatOps.exp2 (F := Ideal) (φ := .f32) (expo (Quant.cnt y)) = Quant.scale y := by
  show Ideal.exp2 _ = _
  unfold expo Quant.scale
  by_cases h : Quant.cnt y = 0
  · rw [if_pos h, if_pos h, ← EReal.coe_zero, Ideal.exp2_coe]
    show ((Real.rpow 2 0 : ℝ) : EReal) = 1
    rw [show Real.rpow 2 0 = 1 from Real.rpow_zero 2]; rfl
  · rw [if_neg h, if_neg h, Ideal.exp2_coe]
    congr 1
    rw [← Real.rpow_intCast]
    push_cast
    rfl

/-- Two to the opposite exponent is the inverse of the scale. -/
theorem exp_inv (y : EReal) : FloatOps.exp2 (F := Ideal) (φ := .f32) (Ideal.ofBits .f32 0x00000000#32 - expo (Quant.cnt y)) = Quant.inv y := by
  show Ideal.exp2 _ = _
  rw [Ideal.ofBits_zero_f32]
  unfold expo Quant.inv
  by_cases h : Quant.cnt y = 0
  · rw [if_pos h, if_pos h, sub_zero, ← EReal.coe_zero, Ideal.exp2_coe]
    show ((Real.rpow 2 0 : ℝ) : EReal) = 1
    rw [show Real.rpow 2 0 = 1 from Real.rpow_zero 2]; rfl
  · rw [if_neg h, if_neg h, zero_sub, ← EReal.coe_neg, Ideal.exp2_coe]
    congr 1
    rw [← Real.rpow_intCast]
    push_cast
    rw [show -((Quant.cnt y : ℝ) - 126) = 126 - (Quant.cnt y : ℝ) by ring]
    rfl

/-- The exponent chosen from a count. -/
theorem expo_eq (n : ℕ) : Scalar.select (Ideal.cmp .oeq ((n : ℝ) : EReal) (Ideal.ofBits .f32 0x00000000#32)) (Ideal.ofBits .f32 0x00000000#32)
    (((n : ℝ) : EReal) - Ideal.ofBits .f32 0x42FC0000#32) = expo n := by
  rw [ofBits_126, Ideal.ofBits_zero_f32]
  unfold expo Scalar.select Ideal.cmp
  by_cases h : n = 0
  · subst h; simp
  · rw [if_neg h]; simp [h]

/-- The largest magnitude of a block's row, over the codes' largest. -/
def tops (x : FVec Ideal S3840x12x128 .f32) : FVec Ideal S3840x12 .f32 :=
  mulf (multiReduction .maximumf [2] S3840x12 (absf x) 0xFF800000#32 reduces_S3840x12x128_S3840x12 (.inl rfl) rfl) (broadcast S3840x12 (Scalar.ofBits .f32 0x3B124925#32))

theorem rmax (x : FVec Ideal S3840x12x128 .f32) (r : Fin 3840) (cb : Fin 12) :
    multiReduction (F := Ideal) (φ := .f32) .maximumf [2] S3840x12 x 0xFF800000#32 reduces_S3840x12x128_S3840x12 (.inl rfl) rfl (ix2 r cb)
      = (Finset.univ : Finset (Fin 128)).fold max (Ideal.ofBits .f32 0xFF800000#32) (fun l => x (ix3 r cb l)) := by
  pointwise

theorem mulf_at (x y : FVec Ideal S3840x12 .f32) (i : S3840x12.Idx) : mulf x y i = (show EReal from x i) * (show EReal from y i) := rfl

theorem tops_apply (x : FVec Ideal S3840x12x128 .f32) (r : Fin 3840) (cb : Fin 12) : tops x (ix2 r cb) = top fun l => x (ix3 r cb l) := by
  unfold tops
  rw [mulf_at, rmax]
  rfl

/-- The powers of two that are counted. -/
def pow2 : FVec Ideal S3840x12x247 .f32 :=
  exp2 (sitofp .f32 (subi (iota .tc S3840x12x247 32 [2] iota_S3840x12x247_d2_w32) (broadcast S3840x12x247 126#32)))

theorem toInt_sub : ∀ k : Fin 247, (IntOp.subi (BitVec.ofNat 32 k.val) 126#32).toInt = (k.val : ℤ) - 126 := by decide

theorem pow2_apply (r : Fin 3840) (cb : Fin 12) (k : Fin 247) : pow2 (ix3 r cb k) = (((2 : ℝ) ^ ((k.val : ℤ) - 126) : ℝ) : EReal) := by
  have h : pow2 (ix3 r cb k) = FloatOps.exp2 (F := Ideal) (φ := .f32) (FloatOps.sitofp .f32 (IntOp.subi (BitVec.ofNat 32 k.val) 126#32)) := by
    unfold pow2; pointwise
  rw [h]
  show Ideal.exp2 (((IntOp.subi (BitVec.ofNat 32 k.val) 126#32).toInt : ℝ) : EReal) = _
  rw [toInt_sub, Ideal.exp2_coe, ← Real.rpow_intCast]
  rfl

/-- How many of them are at most a value. -/
def cnts (Y : FVec Ideal S3840x12 .f32) (P : FVec Ideal S3840x12x247 .f32) : FVec Ideal S3840x12 .f32 :=
  multiReduction (F := Ideal) (φ := .f32) .add [2] S3840x12 (select (cmpf .ole P (broadcastTo S3840x12x247 (shapeCast S3840x12x1 Y shapeCasts_S3840x12_S3840x12x1) broadcasts_S3840x12x1_S3840x12x247)) (broadcast S3840x12x247 (Scalar.ofBits .f32 0x3F800000#32)) (broadcast S3840x12x247 (Scalar.ofBits .f32 0x00000000#32))) 0x00000000#32 reduces_S3840x12x247_S3840x12 (.inl rfl) rfl

open Classical in
theorem cnts_gen (Y : FVec Ideal S3840x12 .f32) (P : FVec Ideal S3840x12x247 .f32) (r : Fin 3840) (cb : Fin 12) :
    cnts Y P (ix2 r cb) = ∑ k : Fin 247, if P (ix3 r cb k) ≤ Y (ix2 r cb) then (1 : EReal) else 0 := by
  unfold cnts
  pointwise

theorem cnts_apply (Y : FVec Ideal S3840x12 .f32) (r : Fin 3840) (cb : Fin 12) : cnts Y pow2 (ix2 r cb) = ((Quant.cnt (Y (ix2 r cb)) : ℝ) : EReal) := by
  classical
  rw [cnts_gen, ← Quant.sum_below]
  refine Finset.sum_congr rfl fun k _ => ?_
  rw [pow2_apply]
  unfold Quant.below
  congr

theorem pay11_eq (v35 v36 : FVec Ideal S3840x1536 .f32) : k0_pay11 (F := Ideal) a2 v35 v36
    = select (cmpf .oeq (cnts (tops (k0_pay10 (F := Ideal) a2 v35 v36)) pow2) (broadcast S3840x12 (Scalar.ofBits .f32 0x00000000#32))) (broadcast S3840x12 (Scalar.ofBits .f32 0x00000000#32))
      (subf (cnts (tops (k0_pay10 (F := Ideal) a2 v35 v36)) pow2) (broadcast S3840x12 (Scalar.ofBits .f32 0x42FC0000#32))) := rfl

theorem pay11_apply (v35 v36 : FVec Ideal S3840x1536 .f32) (r : Fin 3840) (cb : Fin 12) :
    k0_pay11 (F := Ideal) a2 v35 v36 (ix2 r cb) = expo (Quant.cnt (top fun l => k0_pay9 (F := Ideal) a2 v35 v36 (ix2 r ⟨128 * cb.val + l.val, by omega⟩))) := by
  rw [pay11_eq]
  have hc := cnts_apply (tops (k0_pay10 (F := Ideal) a2 v35 v36)) r cb
  rw [tops_apply] at hc
  simp only [pay10_gen] at hc
  revert hc
  generalize cnts (tops (k0_pay10 (F := Ideal) a2 v35 v36)) pow2 = C
  intro hc
  refine Eq.trans ?_ (expo_eq _)
  rw [← hc]
  rfl

theorem pay2_gen (E : FVec Ideal S3840x12 .f32) (r : Fin 3840) (cb : Fin 12) : k0_pay2 (F := Ideal) E (ix2 cb r) = FloatOps.exp2 (F := Ideal) (φ := .f32) (E (ix2 r cb)) := by
  unfold k0_pay2
  pointwise

theorem pay1_gen (x : FVec Ideal S3840x12x128 .f32) (r : Fin 3840) (q : Fin 1536) : k0_pay1 (F := Ideal) x (ix2 r q) = x (ix3 r ⟨q.val / 128, by omega⟩ ⟨q.val % 128, by omega⟩) := by
  unfold k0_pay1
  pointwise

/-- The inverse scales, spread over the blocks. -/
theorem spread (E : FVec Ideal S3840x12 .f32) (r : Fin 3840) (cb : Fin 12) (l : Fin 128) :
    broadcastTo S3840x12x128 (shapeCast S3840x12x1 E shapeCasts_S3840x12_S3840x12x1) broadcasts_S3840x12x1_S3840x12x128 (ix3 r cb l) = E (ix2 r cb) := by
  pointwise

theorem pay12_apply (v35 v36 : FVec Ideal S3840x1536 .f32) (r : Fin 3840) (cb : Fin 12) (l : Fin 128) :
    k0_pay12 (F := Ideal) a2 v35 v36 (ix3 r cb l) = code (k0_pay9 (F := Ideal) a2 v35 v36 (ix2 r ⟨128 * cb.val + l.val, by omega⟩))
      (top fun l => k0_pay9 (F := Ideal) a2 v35 v36 (ix2 r ⟨128 * cb.val + l.val, by omega⟩)) := by
  unfold code
  rw [← exp_inv, ← pay11_apply, ← pay10_gen]
  exact congrArg (fun e => min (Ideal.ofBits .f32 0x43E00000#32) (max (Ideal.ofBits .f32 0xC3E00000#32) (k0_pay10 (F := Ideal) a2 v35 v36 (ix3 r cb l) * e)))
    (spread (exp2 (subf (broadcast S3840x12 (Scalar.ofBits .f32 0x00000000#32)) (k0_pay11 (F := Ideal) a2 v35 v36))) r cb l)

/-! ### The six results -/

open Cert.ReferenceIdeal.Value (G5 G6 G7 G8 G9 G10 hz0 hz1 hz2)

theorem cut13_gen (x0 : Vec Ideal S64x3840x1536 .fp8e5m2) (x1 : Vec Ideal S64x3840x12 .f32) (x2 x3 x4 : Vec Ideal S3840x1536 .f32) :
    k0_pay13 x0 x1 x2 x3 x4 = k0_pay6 x0 x1 x2 x3 x4 := by
  unfold k0_pay13
  rw [View.ld_unit_zero (S := S64x3840x1536) hz0 _ x0, View.ld_unit_zero (S := S64x3840x12) hz1 _ x1, View.ld_unit_zero (S := S3840x1536) hz2 _ x2,
    View.ld_unit_zero (S := S3840x1536) hz2 _ x3, View.ld_unit_zero (S := S3840x1536) hz2 _ x4]
theorem cut13 : k0_pay13 (F := Ideal) a0 a1 a2 a3 a4 = k0_pay6 (F := Ideal) a0 a1 a2 a3 a4 := cut13_gen a0 a1 a2 a3 a4
theorem cut14 : k0_pay14 (F := Ideal) a0 a1 a2 a3 a4 = k0_pay7 (F := Ideal) := rfl

theorem two (y : S3840x1536.Idx) : y = ix2 (y 0) (y 1) := by
  funext a; match a with | ⟨0, _⟩ => rfl | ⟨1, _⟩ => rfl
theorem two' (y : S12x3840.Idx) : y = ix2 (y 0) (y 1) := by
  funext a; match a with | ⟨0, _⟩ => rfl | ⟨1, _⟩ => rfl

theorem G5_eq : G5 (F := Ideal) a0 a1 a2 a3 a4 = fun y => nA a0 a1 a2 a3 a4 (y 0) (y 1) := by
  funext y
  exact (congrFun (congrArg₂ (fun p q => k0_pay9 (F := Ideal) a2 p q) (cut13 a0 a1 a2 a3 a4) (cut14 a0 a1 a2 a3 a4)) y).trans
    ((congrArg _ (two y)).trans (pay9_apply a0 a1 a2 a3 a4 (y 0) (y 1)))
theorem G6_eq : G6 (F := Ideal) a0 a1 a2 a3 a4 = fun y => mA a0 a1 a3 (y 0) (y 1) := by
  funext y
  exact (congrArg _ (two y)).trans (pay4_apply a0 a1 a3 (y 0) (y 1))
theorem G7_eq : G7 (F := Ideal) a0 a1 a2 a3 a4 = fun y => vA a0 a1 a4 (y 0) (y 1) := by
  funext y
  exact (congrArg _ (two y)).trans (pay5_apply a0 a1 a4 (y 0) (y 1))
theorem G8_eq : G8 (F := Ideal) a0 a1 a2 a3 a4 = fun y => uA a0 a1 a2 a3 a4 (y 0) (y 1) := by
  funext y
  exact (congrFun (congrArg₂ (fun p q => k0_pay8 (F := Ideal) p q) (cut13 a0 a1 a2 a3 a4) (cut14 a0 a1 a2 a3 a4)) y).trans
    ((congrArg _ (two y)).trans (pay8_apply a0 a1 a2 a3 a4 (y 0) (y 1)))

theorem top_eq (r : Fin 3840) (cb : Fin 12) :
    (top fun l => k0_pay9 (F := Ideal) a2 (k0_pay6 a0 a1 a2 a3 a4) k0_pay7 (ix2 r ⟨128 * cb.val + l.val, by omega⟩)) = topA a0 a1 a2 a3 a4 r cb := by
  unfold topA
  exact congrArg top (funext fun l => pay9_apply a0 a1 a2 a3 a4 r _)

theorem code_apply (r : Fin 3840) (q : Fin 1536) : k0_pay1 (F := Ideal) (k0_pay12 a2 (k0_pay6 a0 a1 a2 a3 a4) k0_pay7) (ix2 r q) = cA a0 a1 a2 a3 a4 r q := by
  refine (pay1_gen _ r q).trans ((pay12_apply a2 _ _ _ _ _).trans ?_)
  rw [top_eq, pay9_apply]
  unfold cA
  have h : (⟨128 * (q.val / 128) + q.val % 128, by omega⟩ : Fin 1536) = q := Fin.ext (Nat.div_add_mod _ _)
  exact congrArg (fun q' => code (nA a0 a1 a2 a3 a4 r q') _) h

theorem scale_apply (r : Fin 3840) (cb : Fin 12) : k0_pay2 (F := Ideal) (k0_pay11 a2 (k0_pay6 a0 a1 a2 a3 a4) k0_pay7) (ix2 cb r) = sA a0 a1 a2 a3 a4 r cb := by
  rw [pay2_gen, pay11_apply, exp_scale, top_eq]
  rfl

theorem G9_eq : G9 (F := Ideal) a0 a1 a2 a3 a4 = fun y => cA a0 a1 a2 a3 a4 (y 0) (y 1) := by
  funext y
  exact (congrFun (congrArg₂ (fun p q => k0_pay1 (F := Ideal) (k0_pay12 a2 p q)) (cut13 a0 a1 a2 a3 a4) (cut14 a0 a1 a2 a3 a4)) y).trans
    ((congrArg _ (two y)).trans (code_apply a0 a1 a2 a3 a4 (y 0) (y 1)))

theorem G10_eq : G10 (F := Ideal) a0 a1 a2 a3 a4 = fun y : S12x3840.Idx => sA a0 a1 a2 a3 a4 (y 1) (y 0) := by
  funext y
  exact (congrFun (congrArg₂ (fun p q => k0_pay2 (F := Ideal) (k0_pay11 a2 p q)) (cut13 a0 a1 a2 a3 a4) (cut14 a0 a1 a2 a3 a4)) y).trans
    ((congrArg _ (two' y)).trans (scale_apply a0 a1 a2 a3 a4 (y 1) (y 0)))

end Cert.Proof.ReferenceIdeal

end
-- ==== Proof.lean ====
/- The claims of `01_k`: the frames of the kernel, of its idealization and of the reference, the idealization's own conditions, and
   the values: all six results of the idealized kernel are the reference's, for scales that are not infinite. -/
module

public import Idealize.ShloMosaic.Lib.Bf16Pair
public import Idealize.ShloMosaic.Lib.Bf16PairInverse
public import proofs.«01_k».proof.Defs
public import proofs.«01_k».proof.Proof.RunKernel
public import proofs.«01_k».proof.Proof.RunKernelIdeal
public import proofs.«01_k».proof.Proof.Final
public import proofs.«01_k».proof.Proof.Ref
public import proofs.«01_k».proof.Proof.Gen.ReferenceIdeal.Frame
public import proofs.«01_k».proof.Proof.Gen.ReferenceIdeal.Value
public import proofs.«01_k».proof.Proof.Gen.Pre_finite_scales

@[expose] public section

noncomputable section

namespace Cert.Proof

open Idealize.ShloMosaic Idealize.ShloMosaic.TcCoe Idealize.SL.Sem

/-- A value whose magnitude is below the infinity is not infinite. -/
theorem fin_of_lt (x : EReal) (h : Ideal.cmp .olt (max x (-x)) (Ideal.ofBits .f32 0x7F800000#32) = 1#1) : x ≠ ⊤ ∧ x ≠ ⊥ := by
  rw [show Ideal.ofBits .f32 0x7F800000#32 = ⊤ from Quant.ofBits_top] at h
  have hlt : max x (-x) < ⊤ := by
    by_contra hn
    have : Ideal.cmp .olt (max x (-x)) ⊤ = BitVec.ofBool (decide (max x (-x) < ⊤)) := rfl
    rw [this, decide_eq_false hn] at h
    exact absurd h (by decide)
  constructor
  · rintro rfl; exact absurd hlt (by simp)
  · rintro rfl; exact absurd hlt (by simp)

section Pre

open Cert.KernelIdeal Cert.KernelIdeal.Gen

variable (m : (ℓ : Loc nD τ sig) → Buf (Elt Ideal) ℓ)

/-- The precondition, read at a block of scales. -/
theorem fin_block (h : Pre_KernelIdeal_finite_scales m) (c : Dev nD) (t : Fin cfg0.N) (y : S6x64x128.Idx) :
    (show S6x64x128.Idx → EReal from iblk m c 1 t) y ≠ ⊤ ∧ (show S6x64x128.Idx → EReal from iblk m c 1 t) y ≠ ⊥ := by
  have e : y = ix3 (y 0) (y 1) (y 2) := by
    funext a; match a with | ⟨0, _⟩ => rfl | ⟨1, _⟩ => rfl | ⟨2, _⟩ => rfl
  have e1 := (congrArg (show S6x64x128.Idx → EReal from iblk m c 1 t) e).trans (Cert.Proof.KernelIdeal.Val.rd1 m c t (y 0) (y 1) (y 2))
  rw [e1]
  exact fin_of_lt _ (congrFun (h c) _)

end Pre

theorem values : algebraic_KernelIdeal_ReferenceIdeal_pre_finite_scales := by
  intro m g m' g' hp ha
  refine ⟨_, _, _, _, _, _, Cert.Proof.KernelIdeal.Val.run m g (fun c t y => fin_block m hp c t y), ?_⟩
  refine (θ_run _ _ _).mono (fun r h c => ?_) (Cert.ReferenceIdeal.Value.run m' g')
  obtain ⟨h5, h6, h7, h8, h9, h10, hk⟩ := h c
  obtain ⟨a0, a1, a2, a3, a4⟩ := ha c
  refine ⟨h5.trans ?_, h6.trans ?_, h7.trans ?_, h8.trans ?_, h9.trans ?_, h10.trans ?_, hk⟩
  · rw [a0, a1, a2, a3, a4]; exact Cert.Proof.ReferenceIdeal.G5_eq _ _ _ _ _
  · rw [a0, a1, a2, a3, a4]; exact Cert.Proof.ReferenceIdeal.G6_eq _ _ _ _ _
  · rw [a0, a1, a2, a3, a4]; exact Cert.Proof.ReferenceIdeal.G7_eq _ _ _ _ _
  · rw [a0, a1, a2, a3, a4]; exact Cert.Proof.ReferenceIdeal.G8_eq _ _ _ _ _
  · rw [a0, a1, a2, a3, a4]; exact Cert.Proof.ReferenceIdeal.G9_eq _ _ _ _ _
  · rw [a0, a1, a2, a3, a4]; exact Cert.Proof.ReferenceIdeal.G10_eq _ _ _ _ _

theorem claim : Cert.Claim := ⟨Cert.Kernel.Gen.facts, Cert.KernelIdeal.Gen.facts, Cert.ReferenceIdeal.Gen.facts, Cert.Pre_finite_scales.Gen.facts,
  ⟨fun m ρ _ => Cert.Proof.Kernel.frame m ρ,
    fun m ρ _ => Cert.Proof.KernelIdeal.frame m ρ, fun m ρ _ => Cert.Proof.KernelIdeal.frame m ρ,
    fun m ρ _ => Cert.ReferenceIdeal.Gen.frame m ρ, fun m ρ _ => Cert.ReferenceIdeal.Gen.frame m ρ,
    ⟨IdealRules.bf16_pair.bufferStatement _ _, IdealRules.bf16_pack.statement _, IdealRules.bf16_pair.packStatement _,
      IdealRules.bf16_pair.statement _ _, IdealRules.bf16_pair.statement _ _, IdealRules.bf16_pair.statement _ _⟩,
    values⟩⟩

end Cert.Proof

end
